-- ==== Defs.lean ====
def Pre_Attend [hPre_lens_fit : Cert.Pre_lens_fit.Facts] (m : (ℓ : Loc Cert.Attend.nD Cert.Attend.τ Cert.Attend.sig) → Buf (Elt Bits) ℓ) : Prop :=
  ∀ c : Dev Cert.Attend.nD,
    (Cert.Pre_lens_fit.fn (F := Bits) (m ((c.tc : Thread Cert.Attend.nD Cert.Attend.τ).loc Cert.Attend.main_arg0)) (m ((c.tc : Thread Cert.Attend.nD Cert.Attend.τ).loc Cert.Attend.main_arg1)) (m ((c.tc : Thread Cert.Attend.nD Cert.Attend.τ).loc Cert.Attend.main_arg2)) (m ((c.tc : Thread Cert.Attend.nD Cert.Attend.τ).loc Cert.Attend.main_arg3)) (m ((c.tc : Thread Cert.Attend.nD Cert.Attend.τ).loc Cert.Attend.main_arg4)) (m ((c.tc : Thread Cert.Attend.nD Cert.Attend.τ).loc Cert.Attend.main_arg5)) (m ((c.tc : Thread Cert.Attend.nD Cert.Attend.τ).loc Cert.Attend.main_arg6))) = (fun _ => 1#1)

def Pre_AttendIdeal [hPre_lens_fit : Cert.Pre_lens_fit.Facts] (m : (ℓ : Loc Cert.AttendIdeal.nD Cert.AttendIdeal.τ Cert.AttendIdeal.sig) → Buf (Elt Ideal) ℓ) : Prop :=
  ∀ c : Dev Cert.AttendIdeal.nD,
    (Cert.Pre_lens_fit.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))) = (fun _ => 1#1)

def Pre_AttendIdeal_scales_ok [hPre_scales_ok : Cert.Pre_scales_ok.Facts] (m : (ℓ : Loc Cert.AttendIdeal.nD Cert.AttendIdeal.τ Cert.AttendIdeal.sig) → Buf (Elt Ideal) ℓ) : Prop :=
  ∀ c : Dev Cert.AttendIdeal.nD,
    (Cert.Pre_scales_ok.fn (F := Ideal) (m ((c.tc : Thread Cert.AttendIdeal.nD Cert.AttendIdeal.τ).loc Cert.AttendIdeal.main_arg0)) (m ((c.tc : Thread Cert.AttendIdeal.nD Cert.AttendIdeal.τ).loc Cert.AttendIdeal.main_arg1)) (m ((c.tc : Thread Cert.AttendIdeal.nD Cert.AttendIdeal.τ).loc Cert.AttendIdeal.main_arg2)) (m ((c.tc : Thread Cert.AttendIdeal.nD Cert.AttendIdeal.τ).loc Cert.AttendIdeal.main_arg3)) (m ((c.tc : Thread Cert.AttendIdeal.nD Cert.AttendIdeal.τ).loc Cert.AttendIdeal.main_arg4)) (m ((c.tc : Thread Cert.AttendIdeal.nD Cert.AttendIdeal.τ).loc Cert.AttendIdeal.main_arg5)) (m ((c.tc : Thread Cert.AttendIdeal.nD Cert.AttendIdeal.τ).loc Cert.AttendIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Quantise (m : (ℓ : Loc Cert.Quantise.nD Cert.Quantise.τ Cert.Quantise.sig) → Buf (Elt Bits) ℓ) : Prop :=
  True

def quiescent_Attend [hAttend : Cert.Attend.Facts] [hPre_lens_fit : Cert.Pre_lens_fit.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2)
      ∧ r.2.mem ((c.tc : Thread Cert.Attend.nD Cert.Attend.τ).loc Cert.Attend.main_arg3) = m ((c.tc : Thread Cert.Attend.nD Cert.Attend.τ).loc Cert.Attend.main_arg3)
      ∧ r.2.mem ((c.tc : Thread Cert.Attend.nD Cert.Attend.τ).loc Cert.Attend.main_arg4) = m ((c.tc : Thread Cert.Attend.nD Cert.Attend.τ).loc Cert.Attend.main_arg4)
      ∧ r.2.mem ((c.tc : Thread Cert.Attend.nD Cert.Attend.τ).loc Cert.Attend.main_arg5) = m ((c.tc : Thread Cert.Attend.nD Cert.Attend.τ).loc Cert.Attend.main_arg5)
      ∧ r.2.mem ((c.tc : Thread Cert.Attend.nD Cert.Attend.τ).loc Cert.Attend.main_arg6) = m ((c.tc : Thread Cert.Attend.nD Cert.Attend.τ).loc Cert.Attend.main_arg6))
      ∧ r.2.sem = fun _ => 0)

def quiescent_AttendIdeal [hAttendIdeal : Cert.AttendIdeal.Facts] [hPre_lens_fit : Cert.Pre_lens_fit.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_AttendIdeal_pre_scales_ok [hAttendIdeal : Cert.AttendIdeal.Facts] [hPre_scales_ok : Cert.Pre_scales_ok.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_scales_ok m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
      ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
      ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
      ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
      ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def preserves_Attend_AttendIdeal : Prop :=
  IdealRules.named_const.Statement Cert.AttendIdeal.κ "log2e" .f32 0x3FB8AA3B#32 (((Real.log 2)⁻¹ : ℝ) : EReal)

def algebraic_AttendIdeal_ReferenceIdeal_pre_scales_ok [hAttendIdeal : Cert.AttendIdeal.Facts] [hReferenceIdeal : Cert.ReferenceIdeal.Facts] [hPre_scales_ok : Cert.Pre_scales_ok.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_AttendIdeal_scales_ok m →
    (∀ c : Dev Cert.AttendIdeal.nD,
      m' ((c.tc : Thread Cert.ReferenceIdeal.nD Cert.ReferenceIdeal.τ).loc Cert.ReferenceIdeal.main_arg0) = m ((c.tc : Thread Cert.AttendIdeal.nD Cert.AttendIdeal.τ).loc Cert.AttendIdeal.main_arg0)
      ∧ m' ((c.tc : Thread Cert.ReferenceIdeal.nD Cert.ReferenceIdeal.τ).loc Cert.ReferenceIdeal.main_arg1) = m ((c.tc : Thread Cert.AttendIdeal.nD Cert.AttendIdeal.τ).loc Cert.AttendIdeal.main_arg1)
      ∧ m' ((c.tc : Thread Cert.ReferenceIdeal.nD Cert.ReferenceIdeal.τ).loc Cert.ReferenceIdeal.main_arg2) = m ((c.tc : Thread Cert.AttendIdeal.nD Cert.AttendIdeal.τ).loc Cert.AttendIdeal.main_arg2)
      ∧ m' ((c.tc : Thread Cert.ReferenceIdeal.nD Cert.ReferenceIdeal.τ).loc Cert.ReferenceIdeal.main_arg3) = m ((c.tc : Thread Cert.AttendIdeal.nD Cert.AttendIdeal.τ).loc Cert.AttendIdeal.main_arg3)
      ∧ m' ((c.tc : Thread Cert.ReferenceIdeal.nD Cert.ReferenceIdeal.τ).loc Cert.ReferenceIdeal.main_arg4) = m ((c.tc : Thread Cert.AttendIdeal.nD Cert.AttendIdeal.τ).loc Cert.AttendIdeal.main_arg4)
      ∧ m' ((c.tc : Thread Cert.ReferenceIdeal.nD Cert.ReferenceIdeal.τ).loc Cert.ReferenceIdeal.main_arg5) = m ((c.tc : Thread Cert.AttendIdeal.nD Cert.AttendIdeal.τ).loc Cert.AttendIdeal.main_arg5)
      ∧ m' ((c.tc : Thread Cert.ReferenceIdeal.nD Cert.ReferenceIdeal.τ).loc Cert.ReferenceIdeal.main_arg6) = m ((c.tc : Thread Cert.AttendIdeal.nD Cert.AttendIdeal.τ).loc Cert.AttendIdeal.main_arg6)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2)
          ∧ r.2.mem ((c.tc : Thread Cert.AttendIdeal.nD Cert.AttendIdeal.τ).loc Cert.AttendIdeal.main_arg3) = m ((c.tc : Thread Cert.AttendIdeal.nD Cert.AttendIdeal.τ).loc Cert.AttendIdeal.main_arg3)
          ∧ r.2.mem ((c.tc : Thread Cert.AttendIdeal.nD Cert.AttendIdeal.τ).loc Cert.AttendIdeal.main_arg4) = m ((c.tc : Thread Cert.AttendIdeal.nD Cert.AttendIdeal.τ).loc Cert.AttendIdeal.main_arg4)
          ∧ r.2.mem ((c.tc : Thread Cert.AttendIdeal.nD Cert.AttendIdeal.τ).loc Cert.AttendIdeal.main_arg5) = m ((c.tc : Thread Cert.AttendIdeal.nD Cert.AttendIdeal.τ).loc Cert.AttendIdeal.main_arg5)
          ∧ r.2.mem ((c.tc : Thread Cert.AttendIdeal.nD Cert.AttendIdeal.τ).loc Cert.AttendIdeal.main_arg6) = m ((c.tc : Thread Cert.AttendIdeal.nD Cert.AttendIdeal.τ).loc Cert.AttendIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hAttend : Cert.Attend.Facts) (hAttendIdeal : Cert.AttendIdeal.Facts) (hReferenceIdeal : Cert.ReferenceIdeal.Facts) (hQuantise : Cert.Quantise.Facts) (hPre_lens_fit : Cert.Pre_lens_fit.Facts) (hPre_scales_ok : Cert.Pre_scales_ok.Facts),
    quiescent_Attend (hAttend := hAttend) (hPre_lens_fit := hPre_lens_fit)
    ∧ quiescent_AttendIdeal (hAttendIdeal := hAttendIdeal) (hPre_lens_fit := hPre_lens_fit)
    ∧ quiescent_AttendIdeal_pre_scales_ok (hAttendIdeal := hAttendIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ quiescent_Quantise (hQuantise := hQuantise)
    ∧ preserves_Attend_AttendIdeal
    ∧ algebraic_AttendIdeal_ReferenceIdeal_pre_scales_ok (hAttendIdeal := hAttendIdeal) (hReferenceIdeal := hReferenceIdeal) (hPre_scales_ok := hPre_scales_ok)
-- ==== Pre_lens_fit.lean ====
abbrev S8x8x8192x256 : Shape := ⟨4, ![8, 8, 8192, 256]⟩
abbrev S8x8x16x1x512 : Shape := ⟨5, ![8, 8, 16, 1, 512]⟩
abbrev S8x8x1x256 : Shape := ⟨4, ![8, 8, 1, 256]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x8x8192x256 .fp8e4m3) (main_arg1 : FVec F S8x8x16x1x512 .f32) (main_arg2 : FVec F S8x8x8192x256 .fp8e4m3) (main_arg3 : FVec F S8x8x16x1x512 .f32) (main_arg4 : FVec F S8x8x8192x256 .fp8e4m3) (main_arg5 : FVec F S8x8x1x256 .f32) (main_arg6 : IVec S8 32) : IVec S_ 1 :=
  let main_c : IVec S_ 32 := constantI S_ 32 8192#32
  let main_v0 : IVec S8 32 := broadcastInDim S8 ![] bcast_S_S8 main_c
  let main_v1 : IVec S8 1 := cmpi .sle main_arg6 main_v0
  let main_c_0 : IVec S_ 1 := constantI S_ 1 1#1
  let main_v2 : IVec S_ 1 := (fun x v => Host.reduce IntOp.andi x v reducesTo_S8_S_d0 h_S_) main_v1 main_c_0
  main_v2
-- ==== Pre_scales_ok.lean ====
abbrev S8x8x8192x256 : Shape := ⟨4, ![8, 8, 8192, 256]⟩
abbrev S8x8x16x1x512 : Shape := ⟨5, ![8, 8, 16, 1, 512]⟩
abbrev S8x8x1x256 : Shape := ⟨4, ![8, 8, 1, 256]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S8x8x16x1x512 : S_.BroadcastsInDim S8x8x16x1x512 (![] : Fin 0 → Fin S8x8x16x1x512.rank)
  reducesTo_S8x8x16x1x512_S_d0_1_2_3_4 : S8x8x16x1x512.ReducesTo [0, 1, 2, 3, 4] S_

variable [Facts]

def fn {F : FTy → Type} [FloatOps F] (main_arg0 : FVec F S8x8x8192x256 .fp8e4m3) (main_arg1 : FVec F S8x8x16x1x512 .f32) (main_arg2 : FVec F S8x8x8192x256 .fp8e4m3) (main_arg3 : FVec F S8x8x16x1x512 .f32) (main_arg4 : FVec F S8x8x8192x256 .fp8e4m3) (main_arg5 : FVec F S8x8x1x256 .f32) (main_arg6 : IVec S8 32) : IVec S_ 1 :=
  let main_c : IVec S_ 32 := constantI S_ 32 8192#32
  let main_v0 : IVec S8 32 := broadcastInDim S8 ![] bcast_S_S8 main_c
  let main_v1 : IVec S8 1 := cmpi .sle main_arg6 main_v0
  let main_c_0 : IVec S_ 1 := constantI S_ 1 1#1
  let main_v2 : IVec S_ 1 := (fun x v => Host.reduce IntOp.andi x v reducesTo_S8_S_d0 h_S_) main_v1 main_c_0
  let main_cst : FVec F S_ .f32 := constant S_ .f32 0x00000000#32
  let main_v3 : FVec F S8x8x16x1x512 .f32 := broadcastInDim S8x8x16x1x512 ![] bcast_S_S8x8x16x1x512 main_cst
  let main_v4 : IVec S8x8x16x1x512 1 := cmpf .ogt main_arg1 main_v3
  let main_cst_1 : FVec F S_ .f32 := constant S_ .f32 0x7F800000#32
  let main_v5 : FVec F S8x8x16x1x512 .f32 := broadcastInDim S8x8x16x1x512 ![] bcast_S_S8x8x16x1x512 main_cst_1
  let main_v6 : IVec S8x8x16x1x512 1 := cmpf .olt main_arg1 main_v5
  let main_v7 : IVec S8x8x16x1x512 1 := andi main_v4 main_v6
  let main_c_2 : IVec S_ 1 := constantI S_ 1 1#1
  let main_v8 : IVec S_ 1 := (fun x v => Host.reduce IntOp.andi x v reducesTo_S8x8x16x1x512_S_d0_1_2_3_4 h_S_) main_v7 main_c_2
  let main_v9 : IVec S_ 1 := andi main_v2 main_v8
  main_v9
-- ==== Attend.lean ====
abbrev S8x8x8192x256 : Shape := ⟨4, ![8, 8, 8192, 256]⟩
abbrev S8x8x16x1x512 : Shape := ⟨5, ![8, 8, 16, 1, 512]⟩
abbrev S8x8x1x256 : Shape := ⟨4, ![8, 8, 1, 256]⟩
abbrev S8 : Shape := ⟨1, ![8]⟩
abbrev S1x1x512x256 : Shape := ⟨4, ![1, 1, 512, 256]⟩
abbrev S1x1x1x1x512 : Shape := ⟨5, ![1, 1, 1, 1, 512]⟩
abbrev S1x1x8192x256 : Shape := ⟨4, ![1, 1, 8192, 256]⟩
abbrev S1x1x16x1x512 : Shape := ⟨5, ![1, 1, 16, 1, 512]⟩
abbrev S1x1x1x256 : Shape := ⟨4, ![1, 1, 1, 256]⟩
abbrev S16x512x512 : Shape := ⟨3, ![16, 512, 512]⟩
abbrev S512x128 : Shape := ⟨2, ![512, 128]⟩
abbrev S512x256 : Shape := ⟨2, ![512, 256]⟩
abbrev S1 : Shape := ⟨1, ![1]⟩
abbrev S512x512 : Shape := ⟨2, ![512, 512]⟩
abbrev S1x512 : Shape := ⟨2, ![1, 512]⟩
abbrev S1x512x512 : Shape := ⟨3, ![1, 512, 512]⟩
abbrev S128x512 : Shape := ⟨2, ![128, 512]⟩
abbrev S512 : Shape := ⟨1, ![512]⟩
abbrev S512x1 : Shape := ⟨2, ![512, 1]⟩
abbrev S1x256 : Shape := ⟨2, ![1, 256]⟩

abbrev nBuf : Space → Nat
  | .hbm => 7
  | .vmem => 18
  | .smem => 1
  | _ => 0

abbrev bufTy : (tb : Table) → Fin (tcTables nBuf tb) → BufTy
  | .hbm, ⟨0, _⟩ => ⟨S8x8x8192x256, .fp8e4m3⟩
  | .hbm, ⟨1, _⟩ => ⟨S8x8x16x1x512, .f32⟩
  | .hbm, ⟨2, _⟩ => ⟨S8x8x8192x256, .fp8e4m3⟩
  | .hbm, ⟨3, _⟩ => ⟨S8x8x16x1x512, .f32⟩
  | .hbm, ⟨4, _⟩ => ⟨S8x8x8192x256, .fp8e4m3⟩
  | .hbm, ⟨5, _⟩ => ⟨S8x8x1x256, .f32⟩
  | .hbm, ⟨6, _⟩ => ⟨S8x8x8192x256, .bf16⟩
  | .local _ .vmem, ⟨0, _⟩ => ⟨S1x1x512x256, .fp8e4m3⟩
  | .local _ .vmem, ⟨1, _⟩ => ⟨S1x1x512x256, .fp8e4m3⟩
  | .local _ .vmem, ⟨2, _⟩ => ⟨S1x1x1x1x512, .f32⟩
  | .local _ .vmem, ⟨3, _⟩ => ⟨S1x1x1x1x512, .f32⟩
  | .local _ .vmem, ⟨4, _⟩ => ⟨S1x1x8192x256, .fp8e4m3⟩
  | .local _ .vmem, ⟨5, _⟩ => ⟨S1x1x8192x256, .fp8e4m3⟩
  | .local _ .vmem, ⟨6, _⟩ => ⟨S1x1x16x1x512, .f32⟩
  | .local _ .vmem, ⟨7, _⟩ => ⟨S1x1x16x1x512, .f32⟩
  | .local _ .vmem, ⟨8, _⟩ => ⟨S1x1x8192x256, .fp8e4m3⟩
  | .local _ .vmem, ⟨9, _⟩ => ⟨S1x1x8192x256, .fp8e4m3⟩
  | .local _ .vmem, ⟨10, _⟩ => ⟨S1x1x1x256, .f32⟩
  | .local _ .vmem, ⟨11, _⟩ => ⟨S1x1x1x256, .f32⟩
  | .local _ .vmem, ⟨12, _⟩ => ⟨S1x1x512x256, .bf16⟩
  | .local _ .vmem, ⟨13, _⟩ => ⟨S1x1x512x256, .bf16⟩
  | .local _ .vmem, ⟨14, _⟩ => ⟨S16x512x512, .f32⟩
  | .local _ .vmem, ⟨15, _⟩ => ⟨S512x128, .f32⟩
  | .local _ .vmem, ⟨16, _⟩ => ⟨S512x128, .f32⟩
  | .local _ .vmem, ⟨17, _⟩ => ⟨S512x256, .f32⟩
  | .local _ .smem, ⟨0, _⟩ => ⟨S8, .i32⟩
  | _, _ => ⟨S8x8x8192x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 16], ![false, false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (v1 : BitVec 32) : Scf.Loop 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_6 : BitVec 32 := 1#32
  ⟨c0_i32, v14, c1_i32_6⟩

def k0_mult1 (v1 : BitVec 32) (k0_t1 : Fin (k0_t1_loop v1).trips) : BitVec 32 :=
  let c0_i32 : BitVec 32 := 0#32
  let c1_i32_6 : BitVec 32 := 1#32
  let arg15 : BitVec 32 := Scf.iv c0_i32 c1_i32_6 k0_t1
  let c512_i32_44 : BitVec 32 := 512#32
  let v64 : BitVec 32 := Scalar.muli arg15 c512_i32_44
  v64
def k0_off2 (v1 : BitVec 32) (k0_t1 : Fin (k0_t1_loop v1).trips) : Fin 4 → Nat :=
  let c0_45 : Index := 0#32
  let c0_46 : Index := 0#32
  let c0_i32 : BitVec 32 := 0#32
  let c1_i32_6 : BitVec 32 := 1#32
  let arg15 : BitVec 32 := Scf.iv c0_i32 c1_i32_6 k0_t1
  let c512_i32_44 : BitVec 32 := 512#32
  let v64 : BitVec 32 := Scalar.muli arg15 c512_i32_44
  let v65 : BitVec 32 := v64
  let v66 : Index := Scalar.indexCast v65
  let c0_47 : Index := 0#32
  ![0, 0, v66.toNat, 0]
def k0_off3 (v1 : BitVec 32) (k0_t1 : Fin (k0_t1_loop v1).trips) : Fin 5 → Nat :=
  let c0_49 : Index := 0#32
  let c0_50 : Index := 0#32
  let c0_i32 : BitVec 32 := 0#32
  let c1_i32_6 : BitVec 32 := 1#32
  let arg15 : BitVec 32 := Scf.iv c0_i32 c1_i32_6 k0_t1
  let v70 : Index := Scalar.indexCast arg15
  let c0_51 : Index := 0#32
  let c0_52 : Index := 0#32
  ![0, 0, v70.toNat, 0, 0]
def k0_off4 (v1 : BitVec 32) (k0_t1 : Fin (k0_t1_loop v1).trips) : Fin 3 → Nat :=
  let c0_i32 : BitVec 32 := 0#32
  let c1_i32_6 : BitVec 32 := 1#32
  let arg15 : BitVec 32 := Scf.iv c0_i32 c1_i32_6 k0_t1
  let v85 : Index := Scalar.indexCast arg15
  let c0_56 : Index := 0#32
  let c0_57 : Index := 0#32
  ![v85.toNat, 0, 0]
@[reducible] def k0_t2_loop (v1 : BitVec 32) : Scf.Loop 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_7 : BitVec 32 := 1#32
  ⟨v14, v11, c1_i32_7⟩
def k0_mult2 (v1 : BitVec 32) (k0_t2 : Fin (k0_t2_loop v1).trips) : BitVec 32 :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  let arg15 : BitVec 32 := Scf.iv v14 c1_i32_7 k0_t2
  let c512_i32_44 : BitVec 32 := 512#32
  let v64 : BitVec 32 := Scalar.muli arg15 c512_i32_44
  v64
def k0_off5 (v1 : BitVec 32) (k0_t2 : Fin (k0_t2_loop v1).trips) : Fin 4 → Nat :=
  let c0_45 : Index := 0#32
  let c0_46 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  let arg15 : BitVec 32 := Scf.iv v14 c1_i32_7 k0_t2
  let c512_i32_44 : BitVec 32 := 512#32
  let v64 : BitVec 32 := Scalar.muli arg15 c512_i32_44
  let v65 : BitVec 32 := v64
  let v66 : Index := Scalar.indexCast v65
  let c0_47 : Index := 0#32
  ![0, 0, v66.toNat, 0]
def k0_off6 (v1 : BitVec 32) (k0_t2 : Fin (k0_t2_loop v1).trips) : Fin 5 → Nat :=
  let c0_49 : Index := 0#32
  let c0_50 : Index := 0#32
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  let arg15 : BitVec 32 := Scf.iv v14 c1_i32_7 k0_t2
  let v70 : Index := Scalar.indexCast arg15
  let c0_51 : Index := 0#32
  let c0_52 : Index := 0#32
  ![0, 0, v70.toNat, 0, 0]
def k0_off7 (v1 : BitVec 32) (k0_t2 : Fin (k0_t2_loop v1).trips) : Fin 3 → Nat :=
  let c0_i32 : BitVec 32 := 0#32
  let c511_i32 : BitVec 32 := 511#32
  let v2 : BitVec 32 := Scalar.addi v1 c511_i32
  let c512_i32 : BitVec 32 := 512#32
  let v3 : BitVec 32 := Scalar.divsi v2 c512_i32
  let v10 : BitVec 32 := Scalar.subi v3 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_7 : BitVec 32 := 1#32
  let arg15 : BitVec 32 := Scf.iv v14 c1_i32_7 k0_t2
  let v85 : Index := Scalar.indexCast arg15
  let c0_56 : Index := 0#32
  let c0_57 : Index := 0#32
  ![v85.toNat, 0, 0]
@[reducible] def k0_t3_loop (v1 : BitVec 32) : Scf.Loop 32 :=
  let c0_i32_26 : BitVec 32 := 0#32
  let c511_i32 : BitVec 32 := 511#32
  let v2 : BitVec 32 := Scalar.addi v1 c511_i32
  let c512_i32 : BitVec 32 := 512#32
  let v3 : BitVec 32 := Scalar.divsi v2 c512_i32
  let v43 : BitVec 32 := Scalar.subi v3 c0_i32_26
  let c1_i32_28 : BitVec 32 := 1#32
  let v45 : BitVec 32 := Scalar.divsi v43 c1_i32_28
  let v46 : BitVec 32 := Scalar.muli v45 c1_i32_28
  let v47 : BitVec 32 := Scalar.addi c0_i32_26 v46
  let c1_i32_29 : BitVec 32 := 1#32
  ⟨c0_i32_26, v47, c1_i32_29⟩
def k0_off8 (v1 : BitVec 32) (k0_t3 : Fin (k0_t3_loop v1).trips) : Fin 3 → Nat :=
  let c0_i32_26 : BitVec 32 := 0#32
  let c1_i32_29 : BitVec 32 := 1#32
  let arg15 : BitVec 32 := Scf.iv c0_i32_26 c1_i32_29 k0_t3
  let v66 : Index := Scalar.indexCast arg15
  let c0_46 : Index := 0#32
  let c0_47 : Index := 0#32
  ![v66.toNat, 0, 0]
def k0_mult3 (v1 : BitVec 32) (k0_t3 : Fin (k0_t3_loop v1).trips) : BitVec 32 :=
  let c0_i32_26 : BitVec 32 := 0#32
  let c1_i32_29 : BitVec 32 := 1#32
  let arg15 : BitVec 32 := Scf.iv c0_i32_26 c1_i32_29 k0_t3
  let c512_i32_53 : BitVec 32 := 512#32
  let v87 : BitVec 32 := Scalar.muli arg15 c512_i32_53
  v87
def k0_off9 (v1 : BitVec 32) (k0_t3 : Fin (k0_t3_loop v1).trips) : Fin 4 → Nat :=
  let c0_54 : Index := 0#32
  let c0_55 : Index := 0#32
  let c0_i32_26 : BitVec 32 := 0#32
  let c1_i32_29 : BitVec 32 := 1#32
  let arg15 : BitVec 32 := Scf.iv c0_i32_26 c1_i32_29 k0_t3
  let c512_i32_53 : BitVec 32 := 512#32
  let v87 : BitVec 32 := Scalar.muli arg15 c512_i32_53
  let v88 : BitVec 32 := v87
  let v89 : Index := Scalar.indexCast v88
  let c0_56 : Index := 0#32
  ![0, 0, v89.toNat, 0]
@[reducible] def k0_t4_loop (v1 : BitVec 32) : Scf.Loop 32 :=
  let c0_i32_26 : BitVec 32 := 0#32
  let c511_i32 : BitVec 32 := 511#32
  let v2 : BitVec 32 := Scalar.addi v1 c511_i32
  let c512_i32 : BitVec 32 := 512#32
  let v3 : BitVec 32 := Scalar.divsi v2 c512_i32
  let v43 : BitVec 32 := Scalar.subi v3 c0_i32_26
  let c1_i32_28 : BitVec 32 := 1#32
  let v45 : BitVec 32 := Scalar.divsi v43 c1_i32_28
  let v46 : BitVec 32 := Scalar.muli v45 c1_i32_28
  let v47 : BitVec 32 := Scalar.addi c0_i32_26 v46
  let v44 : BitVec 32 := Scalar.addi c0_i32_26 v43
  let c1_i32_30 : BitVec 32 := 1#32
  ⟨v47, v44, c1_i32_30⟩
def k0_off10 (v1 : BitVec 32) (k0_t4 : Fin (k0_t4_loop v1).trips) : Fin 3 → Nat :=
  let c0_i32_26 : BitVec 32 := 0#32
  let c511_i32 : BitVec 32 := 511#32
  let v2 : BitVec 32 := Scalar.addi v1 c511_i32
  let c512_i32 : BitVec 32 := 512#32
  let v3 : BitVec 32 := Scalar.divsi v2 c512_i32
  let v43 : BitVec 32 := Scalar.subi v3 c0_i32_26
  let c1_i32_28 : BitVec 32 := 1#32
  let v45 : BitVec 32 := Scalar.divsi v43 c1_i32_28
  let v46 : BitVec 32 := Scalar.muli v45 c1_i32_28
  let v47 : BitVec 32 := Scalar.addi c0_i32_26 v46
  let c1_i32_30 : BitVec 32 := 1#32
  let arg15 : BitVec 32 := Scf.iv v47 c1_i32_30 k0_t4
  let v66 : Index := Scalar.indexCast arg15
  let c0_46 : Index := 0#32
  let c0_47 : Index := 0#32
  ![v66.toNat, 0, 0]
def k0_mult4 (v1 : BitVec 32) (k0_t4 : Fin (k0_t4_loop v1).trips) : BitVec 32 :=
  let c0_i32_26 : BitVec 32 := 0#32
  let c511_i32 : BitVec 32 := 511#32
  let v2 : BitVec 32 := Scalar.addi v1 c511_i32
  let c512_i32 : BitVec 32 := 512#32
  let v3 : BitVec 32 := Scalar.divsi v2 c512_i32
  let v43 : BitVec 32 := Scalar.subi v3 c0_i32_26
  let c1_i32_28 : BitVec 32 := 1#32
  let v45 : BitVec 32 := Scalar.divsi v43 c1_i32_28
  let v46 : BitVec 32 := Scalar.muli v45 c1_i32_28
  let v47 : BitVec 32 := Scalar.addi c0_i32_26 v46
  let c1_i32_30 : BitVec 32 := 1#32
  let arg15 : BitVec 32 := Scf.iv v47 c1_i32_30 k0_t4
  let c512_i32_53 : BitVec 32 := 512#32
  let v87 : BitVec 32 := Scalar.muli arg15 c512_i32_53
  v87
def k0_off11 (v1 : BitVec 32) (k0_t4 : Fin (k0_t4_loop v1).trips) : Fin 4 → Nat :=
  let c0_54 : Index := 0#32
  let c0_55 : Index := 0#32
  let c0_i32_26 : BitVec 32 := 0#32
  let c511_i32 : BitVec 32 := 511#32
  let v2 : BitVec 32 := Scalar.addi v1 c511_i32
  let c512_i32 : BitVec 32 := 512#32
  let v3 : BitVec 32 := Scalar.divsi v2 c512_i32
  let v43 : BitVec 32 := Scalar.subi v3 c0_i32_26
  let c1_i32_28 : BitVec 32 := 1#32
  let v45 : BitVec 32 := Scalar.divsi v43 c1_i32_28
  let v46 : BitVec 32 := Scalar.muli v45 c1_i32_28
  let v47 : BitVec 32 := Scalar.addi c0_i32_26 v46
  let c1_i32_30 : BitVec 32 := 1#32
  let arg15 : BitVec 32 := Scf.iv v47 c1_i32_30 k0_t4
  let c512_i32_53 : BitVec 32 := 512#32
  let v87 : BitVec 32 := Scalar.muli arg15 c512_i32_53
  let v88 : BitVec 32 := v87
  let v89 : Index := Scalar.indexCast v88
  let c0_56 : Index := 0#32
  ![0, 0, v89.toNat, 0]

def k0_chk1 (v1 : BitVec 32) : Prop :=
  ((k0_t1_loop v1).OK) ∧
  (∀ k0_t1 : Fin (k0_t1_loop v1).trips, 512 ∣ (k0_mult1 v1 k0_t1).toNat) ∧
  (∀ k0_t1 : Fin (k0_t1_loop v1).trips, ∀ a, (k0_off2 v1 k0_t1) a + S1x1x512x256.size a ≤ S1x1x8192x256.size a) ∧
  (∀ k0_t1 : Fin (k0_t1_loop v1).trips, ∀ a, (k0_off3 v1 k0_t1) a + S1x1x1x1x512.size a ≤ S1x1x16x1x512.size a) ∧
  (∀ k0_t1 : Fin (k0_t1_loop v1).trips, ∀ a, (k0_off4 v1 k0_t1) a + S1x512x512.size a ≤ S16x512x512.size a) ∧
  ((k0_t2_loop v1).OK) ∧
  (∀ k0_t2 : Fin (k0_t2_loop v1).trips, 512 ∣ (k0_mult2 v1 k0_t2).toNat) ∧
  (∀ k0_t2 : Fin (k0_t2_loop v1).trips, ∀ a, (k0_off5 v1 k0_t2) a + S1x1x512x256.size a ≤ S1x1x8192x256.size a) ∧
  (∀ k0_t2 : Fin (k0_t2_loop v1).trips, ∀ a, (k0_off6 v1 k0_t2) a + S1x1x1x1x512.size a ≤ S1x1x16x1x512.size a) ∧
  (∀ k0_t2 : Fin (k0_t2_loop v1).trips, ∀ a, (k0_off7 v1 k0_t2) a + S1x512x512.size a ≤ S16x512x512.size a) ∧
  ((k0_t3_loop v1).OK) ∧
  (∀ k0_t3 : Fin (k0_t3_loop v1).trips, ∀ a, (k0_off8 v1 k0_t3) a + S1x512x512.size a ≤ S16x512x512.size a) ∧
  (∀ k0_t3 : Fin (k0_t3_loop v1).trips, 512 ∣ (k0_mult3 v1 k0_t3).toNat) ∧
  (∀ k0_t3 : Fin (k0_t3_loop v1).trips, ∀ a, (k0_off9 v1 k0_t3) a + S1x1x512x256.size a ≤ S1x1x8192x256.size a) ∧
  ((k0_t4_loop v1).OK) ∧
  (∀ k0_t4 : Fin (k0_t4_loop v1).trips, ∀ a, (k0_off10 v1 k0_t4) a + S1x512x512.size a ≤ S16x512x512.size a) ∧
  (∀ k0_t4 : Fin (k0_t4_loop v1).trips, 512 ∣ (k0_mult4 v1 k0_t4).toNat) ∧
  (∀ k0_t4 : Fin (k0_t4_loop v1).trips, ∀ a, (k0_off11 v1 k0_t4) a + S1x1x512x256.size a ≤ S1x1x8192x256.size a)
theorem k0_t1_ok : ∀ (v1 : BitVec 32) (k0_hw1 : k0_chk1 v1), (k0_t1_loop v1).OK := fun v1 k0_hw1 => k0_hw1.1
theorem k0_mult1_dvd : ∀ (v1 : BitVec 32) (k0_hw1 : k0_chk1 v1) (k0_t1 : Fin (k0_t1_loop v1).trips), 512 ∣ (k0_mult1 v1 k0_t1).toNat := fun v1 k0_hw1 k0_t1 => k0_hw1.2.1 k0_t1
theorem k0_off2_inb : ∀ (v1 : BitVec 32) (k0_hw1 : k0_chk1 v1) (k0_t1 : Fin (k0_t1_loop v1).trips), ∀ a, (k0_off2 v1 k0_t1) a + S1x1x512x256.size a ≤ S1x1x8192x256.size a := fun v1 k0_hw1 k0_t1 => k0_hw1.2.2.1 k0_t1
theorem k0_off3_inb : ∀ (v1 : BitVec 32) (k0_hw1 : k0_chk1 v1) (k0_t1 : Fin (k0_t1_loop v1).trips), ∀ a, (k0_off3 v1 k0_t1) a + S1x1x1x1x512.size a ≤ S1x1x16x1x512.size a := fun v1 k0_hw1 k0_t1 => k0_hw1.2.2.2.1 k0_t1
theorem k0_off4_inb : ∀ (v1 : BitVec 32) (k0_hw1 : k0_chk1 v1) (k0_t1 : Fin (k0_t1_loop v1).trips), ∀ a, (k0_off4 v1 k0_t1) a + S1x512x512.size a ≤ S16x512x512.size a := fun v1 k0_hw1 k0_t1 => k0_hw1.2.2.2.2.1 k0_t1
theorem k0_t2_ok : ∀ (v1 : BitVec 32) (k0_hw1 : k0_chk1 v1), (k0_t2_loop v1).OK := fun v1 k0_hw1 => k0_hw1.2.2.2.2.2.1
theorem k0_mult2_dvd : ∀ (v1 : BitVec 32) (k0_hw1 : k0_chk1 v1) (k0_t2 : Fin (k0_t2_loop v1).trips), 512 ∣ (k0_mult2 v1 k0_t2).toNat := fun v1 k0_hw1 k0_t2 => k0_hw1.2.2.2.2.2.2.1 k0_t2
theorem k0_off5_inb : ∀ (v1 : BitVec 32) (k0_hw1 : k0_chk1 v1) (k0_t2 : Fin (k0_t2_loop v1).trips), ∀ a, (k0_off5 v1 k0_t2) a + S1x1x512x256.size a ≤ S1x1x8192x256.size a := fun v1 k0_hw1 k0_t2 => k0_hw1.2.2.2.2.2.2.2.1 k0_t2
theorem k0_off6_inb : ∀ (v1 : BitVec 32) (k0_hw1 : k0_chk1 v1) (k0_t2 : Fin (k0_t2_loop v1).trips), ∀ a, (k0_off6 v1 k0_t2) a + S1x1x1x1x512.size a ≤ S1x1x16x1x512.size a := fun v1 k0_hw1 k0_t2 => k0_hw1.2.2.2.2.2.2.2.2.1 k0_t2
theorem k0_off7_inb : ∀ (v1 : BitVec 32) (k0_hw1 : k0_chk1 v1) (k0_t2 : Fin (k0_t2_loop v1).trips), ∀ a, (k0_off7 v1 k0_t2) a + S1x512x512.size a ≤ S16x512x512.size a := fun v1 k0_hw1 k0_t2 => k0_hw1.2.2.2.2.2.2.2.2.2.1 k0_t2
theorem k0_t3_ok : ∀ (v1 : BitVec 32) (k0_hw1 : k0_chk1 v1), (k0_t3_loop v1).OK := fun v1 k0_hw1 => k0_hw1.2.2.2.2.2.2.2.2.2.2.1
theorem k0_off8_inb : ∀ (v1 : BitVec 32) (k0_hw1 : k0_chk1 v1) (k0_t3 : Fin (k0_t3_loop v1).trips), ∀ a, (k0_off8 v1 k0_t3) a + S1x512x512.size a ≤ S16x512x512.size a := fun v1 k0_hw1 k0_t3 => k0_hw1.2.2.2.2.2.2.2.2.2.2.2.1 k0_t3
theorem k0_mult3_dvd : ∀ (v1 : BitVec 32) (k0_hw1 : k0_chk1 v1) (k0_t3 : Fin (k0_t3_loop v1).trips), 512 ∣ (k0_mult3 v1 k0_t3).toNat := fun v1 k0_hw1 k0_t3 => k0_hw1.2.2.2.2.2.2.2.2.2.2.2.2.1 k0_t3
theorem k0_off9_inb : ∀ (v1 : BitVec 32) (k0_hw1 : k0_chk1 v1) (k0_t3 : Fin (k0_t3_loop v1).trips), ∀ a, (k0_off9 v1 k0_t3) a + S1x1x512x256.size a ≤ S1x1x8192x256.size a := fun v1 k0_hw1 k0_t3 => k0_hw1.2.2.2.2.2.2.2.2.2.2.2.2.2.1 k0_t3
theorem k0_t4_ok : ∀ (v1 : BitVec 32) (k0_hw1 : k0_chk1 v1), (k0_t4_loop v1).OK := fun v1 k0_hw1 => k0_hw1.2.2.2.2.2.2.2.2.2.2.2.2.2.2.1
theorem k0_off10_inb : ∀ (v1 : BitVec 32) (k0_hw1 : k0_chk1 v1) (k0_t4 : Fin (k0_t4_loop v1).trips), ∀ a, (k0_off10 v1 k0_t4) a + S1x512x512.size a ≤ S16x512x512.size a := fun v1 k0_hw1 k0_t4 => k0_hw1.2.2.2.2.2.2.2.2.2.2.2.2.2.2.2.1 k0_t4
theorem k0_mult4_dvd : ∀ (v1 : BitVec 32) (k0_hw1 : k0_chk1 v1) (k0_t4 : Fin (k0_t4_loop v1).trips), 512 ∣ (k0_mult4 v1 k0_t4).toNat := fun v1 k0_hw1 k0_t4 => k0_hw1.2.2.2.2.2.2.2.2.2.2.2.2.2.2.2.2.1 k0_t4
theorem k0_off11_inb : ∀ (v1 : BitVec 32) (k0_hw1 : k0_chk1 v1) (k0_t4 : Fin (k0_t4_loop v1).trips), ∀ a, (k0_off11 v1 k0_t4) a + S1x1x512x256.size a ≤ S1x1x8192x256.size a := fun v1 k0_hw1 k0_t4 => k0_hw1.2.2.2.2.2.2.2.2.2.2.2.2.2.2.2.2.2 k0_t4

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttendIdeal.lean ====
variable {F : FTy → Type} [FloatOps F] [Named F]
def κ : String → Option EReal := fun
  | "log2e" => some (((Real.log 2)⁻¹ : ℝ) : EReal)
  | _ => none
-- ==== ReferenceIdeal.lean ====
abbrev S8x8x8192x256 : Shape := ⟨4, ![8, 8, 8192, 256]⟩
abbrev S8x8x16x1x512 : Shape := ⟨5, ![8, 8, 16, 1, 512]⟩
abbrev S8x8x1x256 : Shape := ⟨4, ![8, 8, 1, 256]⟩
abbrev S8 : Shape := ⟨1, ![8]⟩
abbrev S8x1x1x8192 : Shape := ⟨4, ![8, 1, 1, 8192]⟩
abbrev S8x1x1x1 : Shape := ⟨4, ![8, 1, 1, 1]⟩
abbrev S8x8x8192x1 : Shape := ⟨4, ![8, 8, 8192, 1]⟩
abbrev S8x8x1x8192 : Shape := ⟨4, ![8, 8, 1, 8192]⟩
abbrev S8x8x8192x8192 : Shape := ⟨4, ![8, 8, 8192, 8192]⟩
abbrev S8x8x8192 : Shape := ⟨3, ![8, 8, 8192]⟩

abbrev nBuf : Space → Nat
  | .hbm => 8
  | .vmem => 8
  | .smem => 0
  | _ => 0

abbrev bufTy : (tb : Table) → Fin (tcTables nBuf tb) → BufTy
  | .hbm, ⟨0, _⟩ => ⟨S8x8x8192x256, .fp8e4m3⟩
  | .hbm, ⟨1, _⟩ => ⟨S8x8x16x1x512, .f32⟩
  | .hbm, ⟨2, _⟩ => ⟨S8x8x8192x256, .fp8e4m3⟩
  | .hbm, ⟨3, _⟩ => ⟨S8x8x16x1x512, .f32⟩
  | .hbm, ⟨4, _⟩ => ⟨S8x8x8192x256, .fp8e4m3⟩
  | .hbm, ⟨5, _⟩ => ⟨S8x8x1x256, .f32⟩
  | .hbm, ⟨6, _⟩ => ⟨S8, .i32⟩
  | .hbm, ⟨7, _⟩ => ⟨S8x8x8192x256, .bf16⟩
  | .local _ .vmem, ⟨0, _⟩ => ⟨S8x8x8192x256, .fp8e4m3⟩
  | .local _ .vmem, ⟨1, _⟩ => ⟨S8x8x16x1x512, .f32⟩
  | .local _ .vmem, ⟨2, _⟩ => ⟨S8x8x8192x256, .fp8e4m3⟩
  | .local _ .vmem, ⟨3, _⟩ => ⟨S8x8x16x1x512, .f32⟩
  | .local _ .vmem, ⟨4, _⟩ => ⟨S8x8x8192x256, .fp8e4m3⟩
  | .local _ .vmem, ⟨5, _⟩ => ⟨S8x8x1x256, .f32⟩
  | .local _ .vmem, ⟨6, _⟩ => ⟨S8, .i32⟩
  | .local _ .vmem, ⟨7, _⟩ => ⟨S8x8x8192x256, .bf16⟩
  | _, _ => ⟨S8x8x8192x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x8x8192x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x16x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x8192x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x16x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x8192x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8x8192x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quantise.lean ====
abbrev S8x2048x32x256 : Shape := ⟨4, ![8, 2048, 32, 256]⟩
abbrev S8x2048x32 : Shape := ⟨3, ![8, 2048, 32]⟩
abbrev S1x64x32x256 : Shape := ⟨4, ![1, 64, 32, 256]⟩
abbrev S1x64x32 : Shape := ⟨3, ![1, 64, 32]⟩
abbrev S64x32x256 : Shape := ⟨3, ![64, 32, 256]⟩
abbrev S64x32 : Shape := ⟨2, ![64, 32]⟩
abbrev S64x32x1 : Shape := ⟨3, ![64, 32, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x32x256, .bf16⟩
  | .hbm, ⟨1, _⟩ => ⟨S8x2048x32x256, .fp8e4m3⟩
  | .hbm, ⟨2, _⟩ => ⟨S8x2048x32, .f32⟩
  | .local _ .vmem, ⟨0, _⟩ => ⟨S1x64x32x256, .bf16⟩
  | .local _ .vmem, ⟨1, _⟩ => ⟨S1x64x32x256, .bf16⟩
  | .local _ .vmem, ⟨2, _⟩ => ⟨S1x64x32x256, .fp8e4m3⟩
  | .local _ .vmem, ⟨3, _⟩ => ⟨S1x64x32x256, .fp8e4m3⟩
  | .local _ .vmem, ⟨4, _⟩ => ⟨S1x64x32, .f32⟩
  | .local _ .vmem, ⟨5, _⟩ => ⟨S1x64x32, .f32⟩
  | _, _ => ⟨S8x2048x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Proof.Words.lean ====
/- The words of the attention kernel: a row's length `v` (a word, at most 8192 as a signed number) makes
   `(v + 511) / 512` trips, each reading inside its arrays. -/
module

public import proofs.«01_k».proof.Proof.Gen.Attend
import Mathlib.Tactic.NormNum
import Mathlib.Tactic.FinCases
public import Idealize.ShloMosaic.Lib.WordArith
public import Idealize.ShloMosaic.Lib.LoopRemainder

@[expose] public section

namespace Cert.Attend.Hand

open Idealize.ShloMosaic Idealize.ShloMosaic.TcCoe Cert.Attend

/-- How many chunks of 512 keys a row of length `v` has. -/
def chunks (v : BitVec 32) : ℕ := ((v.toInt + 511).tdiv 512).toNat

theorem tdiv_bounds (x : ℤ) (h : x ≤ 8703) (hlo : -2147483648 ≤ x) : x.tdiv 512 ≤ 16 ∧ -4194304 ≤ x.tdiv 512 := by
  rcases le_total 0 x with h0 | h0
  · rw [Int.tdiv_eq_ediv_of_nonneg h0]; omega
  · have : x.tdiv 512 = -((-x) / 512) := by
      rw [← Int.tdiv_eq_ediv_of_nonneg (by omega : 0 ≤ -x), Int.neg_tdiv, neg_neg]
    rw [this]; omega

theorem chunkWord_toInt (v : BitVec 32) (h : v.toInt ≤ 8192) :
    (Scalar.divsi (Scalar.addi v 511#32) 512#32).toInt = (v.toInt + 511).tdiv 512 := by
  have hlo : -2147483648 ≤ v.toInt := by have := BitVec.le_toInt v; simpa using this
  have h511 : (511#32 : BitVec 32).toInt = 511 := by decide
  have ha : (Scalar.addi v 511#32).toInt = v.toInt + 511 := by
    have := WordArith.toInt_add_of_bounds v 511#32 (by rw [h511]; omega) (by rw [h511]; omega)
    rw [h511] at this; exact this
  have hc : ¬ IntOp.SDivCorner (Scalar.addi v 511#32) 512#32 := by
    intro hc
    rcases hc with hc | ⟨-, hc⟩ <;> exact absurd hc (by decide)
  have hd : Scalar.divsi (Scalar.addi v 511#32) 512#32 = (Scalar.addi v 511#32).sdiv 512#32 := by
    show IntOp.divsi .scalar _ _ = _
    unfold IntOp.divsi; rw [if_neg hc]
  rw [hd, BitVec.toInt_sdiv, ha, show (512#32 : BitVec 32).toInt = 512 by decide]
  have := tdiv_bounds (v.toInt + 511) (by omega) (by omega)
  generalize (v.toInt + 511).tdiv 512 = q at *
  rw [Int.bmod_def]
  norm_num
  omega

theorem chunks_le (v : BitVec 32) (h : v.toInt ≤ 8192) : chunks v ≤ 16 := by
  have hlo : -2147483648 ≤ v.toInt := by have := BitVec.le_toInt v; simpa using this
  have := tdiv_bounds (v.toInt + 511) (by omega) (by omega)
  unfold chunks; omega

theorem toNat_iv (k : ℕ) (h : k ≤ 16) : (Scf.iv 0#32 1#32 k).toNat = k := by
  simp only [Scf.iv, BitVec.zero_add, BitVec.mul_one, BitVec.toNat_ofNat]; omega

theorem trips_of (b : BitVec 32) : Scf.trips 0#32 b 1#32 = b.toInt.toNat := by
  unfold Scf.trips
  rw [show (1#32 : BitVec 32).toInt = 1 by decide, show (0#32 : BitVec 32).toInt = 0 by decide]
  omega

theorem ub_eq (v : BitVec 32) :
    Scalar.addi 0#32 (Scalar.muli (Scalar.divsi (Scalar.subi (Scalar.divsi (Scalar.addi v 511#32) 512#32) 0#32) 1#32) 1#32)
      = Scalar.divsi (Scalar.addi v 511#32) 512#32 := by
  rw [Scalar.muli_divsi_one]
  show 0#32 + ((Scalar.divsi (Scalar.addi v 511#32) 512#32) - 0#32) = _
  rw [BitVec.zero_add, BitVec.sub_zero]

theorem t1_trips (v : BitVec 32) (h : v.toInt ≤ 8192) : (k0_t1_loop v).trips = chunks v := by
  show Scf.trips 0#32 (Scalar.addi 0#32 (Scalar.muli (Scalar.divsi (Scalar.subi (Scalar.divsi (Scalar.addi v 511#32) 512#32) 0#32) 1#32) 1#32)) 1#32 = _
  rw [ub_eq, trips_of, chunkWord_toInt v h]; rfl

theorem t3_trips (v : BitVec 32) (h : v.toInt ≤ 8192) : (k0_t3_loop v).trips = chunks v := t1_trips v h

theorem t1_ok (v : BitVec 32) (h : v.toInt ≤ 8192) : (k0_t1_loop v).OK := by
  have ht := t1_trips v h
  have hc := chunks_le v h
  refine ⟨(by decide : 0 < (1#32 : BitVec 32).toInt), ?_⟩
  show (0#32 : BitVec 32).toInt + ((k0_t1_loop v).trips : ℤ) * (1#32 : BitVec 32).toInt < 2 ^ (32 - 1)
  rw [ht, show (1#32 : BitVec 32).toInt = 1 by decide, show (0#32 : BitVec 32).toInt = 0 by decide]
  omega

theorem t1_lt (v : BitVec 32) (h : v.toInt ≤ 8192) (k : Fin (k0_t1_loop v).trips) : k.val < 16 :=
  lt_of_lt_of_le k.isLt (by rw [t1_trips v h]; exact chunks_le v h)

theorem t2_none (v : BitVec 32) (k : Fin (k0_t2_loop v).trips) : False :=
  Scf.rem_no_trip 0#32 (Scalar.subi (Scalar.divsi (Scalar.addi v 511#32) 512#32) 0#32) k

theorem t4_none (v : BitVec 32) (k : Fin (k0_t4_loop v).trips) : False :=
  Scf.rem_no_trip 0#32 (Scalar.subi (Scalar.divsi (Scalar.addi v 511#32) 512#32) 0#32) k

theorem toNat_iv512 (k : ℕ) (h : k ≤ 16) : (Scalar.muli (Scf.iv 0#32 1#32 k) 512#32).toNat = 512 * k := by
  show (Scf.iv 0#32 1#32 k * 512#32).toNat = _
  rw [BitVec.toNat_mul, toNat_iv k h]
  simp; omega

theorem off2_eq (v : BitVec 32) (h : v.toInt ≤ 8192) (k : Fin (k0_t1_loop v).trips) :
    k0_off2 v k = ![0, 0, 512 * k.val, 0] := by
  have := toNat_iv512 k (le_of_lt (t1_lt v h k))
  show ![0, 0, (Scalar.muli (Scf.iv 0#32 1#32 k) 512#32).toNat, 0] = _
  rw [this]

theorem off3_eq (v : BitVec 32) (h : v.toInt ≤ 8192) (k : Fin (k0_t1_loop v).trips) :
    k0_off3 v k = ![0, 0, k.val, 0, 0] := by
  show ![0, 0, (Scf.iv 0#32 1#32 k).toNat, 0, 0] = _
  rw [toNat_iv k (le_of_lt (t1_lt v h k))]

theorem off4_eq (v : BitVec 32) (h : v.toInt ≤ 8192) (k : Fin (k0_t1_loop v).trips) :
    k0_off4 v k = ![k.val, 0, 0] := by
  show ![(Scf.iv 0#32 1#32 k).toNat, 0, 0] = _
  rw [toNat_iv k (le_of_lt (t1_lt v h k))]

theorem off8_eq (v : BitVec 32) (h : v.toInt ≤ 8192) (k : Fin (k0_t3_loop v).trips) :
    k0_off8 v k = ![k.val, 0, 0] := off4_eq v h k

theorem off9_eq (v : BitVec 32) (h : v.toInt ≤ 8192) (k : Fin (k0_t3_loop v).trips) :
    k0_off9 v k = ![0, 0, 512 * k.val, 0] := off2_eq v h k

/-- What the body assumes of the length it reads holds of every length at most 8192. -/
theorem chk1 (v : BitVec 32) (h : v.toInt ≤ 8192) : k0_chk1 v := by
  have hk := t1_lt v h
  have s256 : ∀ k : Fin (k0_t1_loop v).trips, ∀ a, (k0_off2 v k) a + S1x1x512x256.size a ≤ S1x1x8192x256.size a := by
    intro k a; rw [off2_eq v h k]; have := hk k
    fin_cases a <;> simp [S1x1x512x256, S1x1x8192x256] <;> omega
  have s512 : ∀ k : Fin (k0_t1_loop v).trips, ∀ a, (k0_off4 v k) a + S1x512x512.size a ≤ S16x512x512.size a := by
    intro k a; rw [off4_eq v h k]; have := hk k
    fin_cases a <;> simp [S1x512x512, S16x512x512] <;> omega
  have hdvd : ∀ k : Fin (k0_t1_loop v).trips, 512 ∣ (k0_mult1 v k).toNat := by
    intro k
    show 512 ∣ (Scalar.muli (Scf.iv 0#32 1#32 k) 512#32).toNat
    rw [toNat_iv512 k (le_of_lt (hk k))]; exact Dvd.intro _ rfl
  refine ⟨t1_ok v h, hdvd, s256, ?_, s512, Scf.rem_ok _ _, fun k => (t2_none v k).elim, fun k => (t2_none v k).elim,
    fun k => (t2_none v k).elim, fun k => (t2_none v k).elim, t1_ok v h, s512, hdvd, s256, Scf.rem_ok _ _,
    fun k => (t4_none v k).elim, fun k => (t4_none v k).elim, fun k => (t4_none v k).elim⟩
  intro k a; rw [off3_eq v h k]; have := hk k
  fin_cases a <;> simp [S1x1x1x1x512, S1x1x16x1x512] <;> omega

end Cert.Attend.Hand

end
-- ==== Proof.WordsI.lean ====
/- The words of the attention kernel: a row's length `v` (a word, at most 8192 as a signed number) makes
   `(v + 511) / 512` trips, each reading inside its arrays. -/
module

public import proofs.«01_k».proof.Proof.Gen.AttendIdeal
import Mathlib.Tactic.NormNum
import Mathlib.Tactic.FinCases
public import Idealize.ShloMosaic.Lib.WordArith
public import Idealize.ShloMosaic.Lib.LoopRemainder

@[expose] public section

namespace Cert.AttendIdeal.Hand

open Idealize.ShloMosaic Idealize.ShloMosaic.TcCoe Cert.AttendIdeal

/-- How many chunks of 512 keys a row of length `v` has. -/
def chunks (v : BitVec 32) : ℕ := ((v.toInt + 511).tdiv 512).toNat

theorem tdiv_bounds (x : ℤ) (h : x ≤ 8703) (hlo : -2147483648 ≤ x) : x.tdiv 512 ≤ 16 ∧ -4194304 ≤ x.tdiv 512 := by
  rcases le_total 0 x with h0 | h0
  · rw [Int.tdiv_eq_ediv_of_nonneg h0]; omega
  · have : x.tdiv 512 = -((-x) / 512) := by
      rw [← Int.tdiv_eq_ediv_of_nonneg (by omega : 0 ≤ -x), Int.neg_tdiv, neg_neg]
    rw [this]; omega

theorem chunkWord_toInt (v : BitVec 32) (h : v.toInt ≤ 8192) :
    (Scalar.divsi (Scalar.addi v 511#32) 512#32).toInt = (v.toInt + 511).tdiv 512 := by
  have hlo : -2147483648 ≤ v.toInt := by have := BitVec.le_toInt v; simpa using this
  have h511 : (511#32 : BitVec 32).toInt = 511 := by decide
  have ha : (Scalar.addi v 511#32).toInt = v.toInt + 511 := by
    have := WordArith.toInt_add_of_bounds v 511#32 (by rw [h511]; omega) (by rw [h511]; omega)
    rw [h511] at this; exact this
  have hc : ¬ IntOp.SDivCorner (Scalar.addi v 511#32) 512#32 := by
    intro hc
    rcases hc with hc | ⟨-, hc⟩ <;> exact absurd hc (by decide)
  have hd : Scalar.divsi (Scalar.addi v 511#32) 512#32 = (Scalar.addi v 511#32).sdiv 512#32 := by
    show IntOp.divsi .scalar _ _ = _
    unfold IntOp.divsi; rw [if_neg hc]
  rw [hd, BitVec.toInt_sdiv, ha, show (512#32 : BitVec 32).toInt = 512 by decide]
  have := tdiv_bounds (v.toInt + 511) (by omega) (by omega)
  generalize (v.toInt + 511).tdiv 512 = q at *
  rw [Int.bmod_def]
  norm_num
  omega

theorem chunks_le (v : BitVec 32) (h : v.toInt ≤ 8192) : chunks v ≤ 16 := by
  have hlo : -2147483648 ≤ v.toInt := by have := BitVec.le_toInt v; simpa using this
  have := tdiv_bounds (v.toInt + 511) (by omega) (by omega)
  unfold chunks; omega

theorem toNat_iv (k : ℕ) (h : k ≤ 16) : (Scf.iv 0#32 1#32 k).toNat = k := by
  simp only [Scf.iv, BitVec.zero_add, BitVec.mul_one, BitVec.toNat_ofNat]; omega

theorem trips_of (b : BitVec 32) : Scf.trips 0#32 b 1#32 = b.toInt.toNat := by
  unfold Scf.trips
  rw [show (1#32 : BitVec 32).toInt = 1 by decide, show (0#32 : BitVec 32).toInt = 0 by decide]
  omega

theorem ub_eq (v : BitVec 32) :
    Scalar.addi 0#32 (Scalar.muli (Scalar.divsi (Scalar.subi (Scalar.divsi (Scalar.addi v 511#32) 512#32) 0#32) 1#32) 1#32)
      = Scalar.divsi (Scalar.addi v 511#32) 512#32 := by
  rw [Scalar.muli_divsi_one]
  show 0#32 + ((Scalar.divsi (Scalar.addi v 511#32) 512#32) - 0#32) = _
  rw [BitVec.zero_add, BitVec.sub_zero]

theorem t1_trips (v : BitVec 32) (h : v.toInt ≤ 8192) : (k0_t1_loop v).trips = chunks v := by
  show Scf.trips 0#32 (Scalar.addi 0#32 (Scalar.muli (Scalar.divsi (Scalar.subi (Scalar.divsi (Scalar.addi v 511#32) 512#32) 0#32) 1#32) 1#32)) 1#32 = _
  rw [ub_eq, trips_of, chunkWord_toInt v h]; rfl

theorem t3_trips (v : BitVec 32) (h : v.toInt ≤ 8192) : (k0_t3_loop v).trips = chunks v := t1_trips v h

theorem t1_ok (v : BitVec 32) (h : v.toInt ≤ 8192) : (k0_t1_loop v).OK := by
  have ht := t1_trips v h
  have hc := chunks_le v h
  refine ⟨(by decide : 0 < (1#32 : BitVec 32).toInt), ?_⟩
  show (0#32 : BitVec 32).toInt + ((k0_t1_loop v).trips : ℤ) * (1#32 : BitVec 32).toInt < 2 ^ (32 - 1)
  rw [ht, show (1#32 : BitVec 32).toInt = 1 by decide, show (0#32 : BitVec 32).toInt = 0 by decide]
  omega

theorem t1_lt (v : BitVec 32) (h : v.toInt ≤ 8192) (k : Fin (k0_t1_loop v).trips) : k.val < 16 :=
  lt_of_lt_of_le k.isLt (by rw [t1_trips v h]; exact chunks_le v h)

theorem t2_none (v : BitVec 32) (k : Fin (k0_t2_loop v).trips) : False :=
  Scf.rem_no_trip 0#32 (Scalar.subi (Scalar.divsi (Scalar.addi v 511#32) 512#32) 0#32) k

theorem t4_none (v : BitVec 32) (k : Fin (k0_t4_loop v).trips) : False :=
  Scf.rem_no_trip 0#32 (Scalar.subi (Scalar.divsi (Scalar.addi v 511#32) 512#32) 0#32) k

theorem toNat_iv512 (k : ℕ) (h : k ≤ 16) : (Scalar.muli (Scf.iv 0#32 1#32 k) 512#32).toNat = 512 * k := by
  show (Scf.iv 0#32 1#32 k * 512#32).toNat = _
  rw [BitVec.toNat_mul, toNat_iv k h]
  simp; omega

theorem off2_eq (v : BitVec 32) (h : v.toInt ≤ 8192) (k : Fin (k0_t1_loop v).trips) :
    k0_off2 v k = ![0, 0, 512 * k.val, 0] := by
  have := toNat_iv512 k (le_of_lt (t1_lt v h k))
  show ![0, 0, (Scalar.muli (Scf.iv 0#32 1#32 k) 512#32).toNat, 0] = _
  rw [this]

theorem off3_eq (v : BitVec 32) (h : v.toInt ≤ 8192) (k : Fin (k0_t1_loop v).trips) :
    k0_off3 v k = ![0, 0, k.val, 0, 0] := by
  show ![0, 0, (Scf.iv 0#32 1#32 k).toNat, 0, 0] = _
  rw [toNat_iv k (le_of_lt (t1_lt v h k))]

theorem off4_eq (v : BitVec 32) (h : v.toInt ≤ 8192) (k : Fin (k0_t1_loop v).trips) :
    k0_off4 v k = ![k.val, 0, 0] := by
  show ![(Scf.iv 0#32 1#32 k).toNat, 0, 0] = _
  rw [toNat_iv k (le_of_lt (t1_lt v h k))]

theorem off8_eq (v : BitVec 32) (h : v.toInt ≤ 8192) (k : Fin (k0_t3_loop v).trips) :
    k0_off8 v k = ![k.val, 0, 0] := off4_eq v h k

theorem off9_eq (v : BitVec 32) (h : v.toInt ≤ 8192) (k : Fin (k0_t3_loop v).trips) :
    k0_off9 v k = ![0, 0, 512 * k.val, 0] := off2_eq v h k

/-- What the body assumes of the length it reads holds of every length at most 8192. -/
theorem chk1 (v : BitVec 32) (h : v.toInt ≤ 8192) : k0_chk1 v := by
  have hk := t1_lt v h
  have s256 : ∀ k : Fin (k0_t1_loop v).trips, ∀ a, (k0_off2 v k) a + S1x1x512x256.size a ≤ S1x1x8192x256.size a := by
    intro k a; rw [off2_eq v h k]; have := hk k
    fin_cases a <;> simp [S1x1x512x256, S1x1x8192x256] <;> omega
  have s512 : ∀ k : Fin (k0_t1_loop v).trips, ∀ a, (k0_off4 v k) a + S1x512x512.size a ≤ S16x512x512.size a := by
    intro k a; rw [off4_eq v h k]; have := hk k
    fin_cases a <;> simp [S1x512x512, S16x512x512] <;> omega
  have hdvd : ∀ k : Fin (k0_t1_loop v).trips, 512 ∣ (k0_mult1 v k).toNat := by
    intro k
    show 512 ∣ (Scalar.muli (Scf.iv 0#32 1#32 k) 512#32).toNat
    rw [toNat_iv512 k (le_of_lt (hk k))]; exact Dvd.intro _ rfl
  refine ⟨t1_ok v h, hdvd, s256, ?_, s512, Scf.rem_ok _ _, fun k => (t2_none v k).elim, fun k => (t2_none v k).elim,
    fun k => (t2_none v k).elim, fun k => (t2_none v k).elim, t1_ok v h, s512, hdvd, s256, Scf.rem_ok _ _,
    fun k => (t4_none v k).elim, fun k => (t4_none v k).elim, fun k => (t4_none v k).elim⟩
  intro k a; rw [off3_eq v h k]; have := hk k
  fin_cases a <;> simp [S1x1x1x1x512, S1x1x16x1x512] <;> omega

end Cert.AttendIdeal.Hand

end
-- ==== Proof.Attend.Points.lean ====
module

public import proofs.«01_k».proof.Proof.Gen.Attend
public import Idealize.ShloMosaic.Lib.Pipeline.Kit

@[expose] public section

noncomputable section

namespace Cert.Attend.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 2 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 2 (fun _ => rfl) (by decide)) (P := 1) (by decide) t).mpr (Nat.mod_one _) : ∀ t : Fin grid0.N, Pipeline.Window.fetchOf grid0 false cc0_transform_1 t = true)
/-- Window 2 (operand 3 (%arg2)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 1 (by decide) (by decide) (Pipeline.Window.sep_of_coord cc0_transform_2 1 1 (fun _ => rfl) (by decide)) (P := 16) (by decide) t : ∀ t : Fin grid0.N, Pipeline.Window.fetchOf grid0 false cc0_transform_2 t = true ↔ t.val % 16 = 0)
/-- Window 3 (operand 4 (%arg3)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 1 (by decide) (by decide) (Pipeline.Window.sep_of_coord cc0_transform_3 1 1 (fun _ => rfl) (by decide)) (P := 16) (by decide) t : ∀ t : Fin grid0.N, Pipeline.Window.fetchOf grid0 false cc0_transform_3 t = true ↔ t.val % 16 = 0)
/-- Window 4 (operand 5 (%arg4)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 1 (by decide) (by decide) (Pipeline.Window.sep_of_coord cc0_transform_4 1 1 (fun _ => rfl) (by decide)) (P := 16) (by decide) t : ∀ t : Fin grid0.N, Pipeline.Window.fetchOf grid0 false cc0_transform_4 t = true ↔ t.val % 16 = 0)
/-- Window 5 (operand 6 (%arg5)) is fetched at the points ≡ 0 (mod 16), at any contents of the tables (its index map reads none). -/
theorem fetch0_5 (a : (pcfg0 (F := F)).Adm) : ∀ t : Fin (cfg0 a).N, ((cfg0 a).win 5).fetch t = true ↔ t.val % 16 = 0 :=
  (fun t => Pipeline.Window.fetchOf_reads cc0_transform_5 reads0_5 hreads0_5 1 (by decide) (by decide) (Pipeline.Window.sep_of_coord cc0_transform_5 1 1 (fun _ => rfl) (by decide)) (P := 16) (by decide) t : ∀ t : Fin grid0.N, Pipeline.Window.fetchOf grid0 false cc0_transform_5 t = true ↔ t.val % 16 = 0)
/-- Window 6 (result 0 (%0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 2 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Attend.Gen

end
-- ==== Proof.Attend.Runs.lean ====
module

public import proofs.«01_k».proof.Proof.Gen.Attend.Launch
public import proofs.«01_k».proof.Proof.Gen.Attend.Skeleton
public import proofs.«01_k».proof.Proof.Gen.Attend.Loops
public import proofs.«01_k».proof.Proof.Attend.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Attend`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 6, through which its contents are stated (`View.read_writes_of_cover`: the
    choice does not matter). -/
abbrev VO0_6 : View sig .tc .vmem S1x1x512x256 .bf16 := (Memref.whole cc0_stg6_0 : Memref sig .tc .vmem S1x1x512x256 .bf16).view
/-- Each window's current staging memref at point `t`, spelled as the pipeline passes it (`bodyAt0`), and its wholeness. -/
abbrev ms0_0 (hO : Ok m) (t : Fin (cfgM m hO).N) : Memref sig .tc .vmem S1x1x512x256 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x1x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x8192x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x16x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x8192x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x512x256 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16x512x512 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Attend.Gen

end
-- ==== Proof.Attend.RunA.lean ====
module

public import proofs.«01_k».proof.Proof.Attend.Runs

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (tbM0_0.view.readAt (Elt F) (Rect.unit (s := S8) (k0_off1 i) S1.size (k0_off1_inb i)).toLoadRect xt0 (Shape.Idx.first (numel1_S1.symm ▸ Nat.one_pos)))) :
    { L6 : List (View.Piece (Elt F) S1x1x512x256 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attend_eq_skeleton]; unfold cc0_attend_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Attend.Gen

end
-- ==== Proof.Attend.Frame.lean ====
module

public import proofs.«01_k».proof.Proof.Attend.RunA
public import Idealize.ShloMosaic.Lib.Claim

@[expose] public section

-- membership in a rectangle of production extents (`View.cover_of_tiled`): the elaborator's structural look
-- recurses once per coordinate of the long axes
set_option maxRecDepth 16384

noncomputable section

namespace Cert.Attend.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `B`; the invariant the class's
    (Lib/Pipeline/Frame.lean `ΦA`: the scoped rest and the generator register) and the tables' halves (`ΦT`); nothing owed;
    full shares. -/
def dats (hO : Ok m) (B : (c : Dev nD) → Fin (cfgM m hO).N → Vec F S1x1x512x256 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => B c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (B : (c : Dev nD) → Fin (cfgM m hO).N → Vec F S1x1x512x256 .bf16) (c : Dev nD) (w : Fin (cfgM m hO).W) : (dats m hO B 0 c).A w = V m c (Pipeline.arrRef spec0 w) := by
  dsimp only [dats]

/-- What the body leaves, window by window (the proof data's `match` reduced by `dsimp`). -/
theorem after0_0 (hO : Ok m) (B : (c : Dev nD) → Fin (cfgM m hO).N → Vec F S1x1x512x256 .bf16) (c : Dev nD) (t : Fin (cfgM m hO).N) : (dats m hO B 0 c).after 0 t = iblk m hO c 0 t := by dsimp only [dats]; try rfl
theorem after0_1 (hO : Ok m) (B : (c : Dev nD) → Fin (cfgM m hO).N → Vec F S1x1x512x256 .bf16) (c : Dev nD) (t : Fin (cfgM m hO).N) : (dats m hO B 0 c).after 1 t = iblk m hO c 1 t := by dsimp only [dats]; try rfl
theorem after0_2 (hO : Ok m) (B : (c : Dev nD) → Fin (cfgM m hO).N → Vec F S1x1x512x256 .bf16) (c : Dev nD) (t : Fin (cfgM m hO).N) : (dats m hO B 0 c).after 2 t = iblk m hO c 2 t := by dsimp only [dats]; try rfl
theorem after0_3 (hO : Ok m) (B : (c : Dev nD) → Fin (cfgM m hO).N → Vec F S1x1x512x256 .bf16) (c : Dev nD) (t : Fin (cfgM m hO).N) : (dats m hO B 0 c).after 3 t = iblk m hO c 3 t := by dsimp only [dats]; try rfl
theorem after0_4 (hO : Ok m) (B : (c : Dev nD) → Fin (cfgM m hO).N → Vec F S1x1x512x256 .bf16) (c : Dev nD) (t : Fin (cfgM m hO).N) : (dats m hO B 0 c).after 4 t = iblk m hO c 4 t := by dsimp only [dats]; try rfl
theorem after0_5 (hO : Ok m) (B : (c : Dev nD) → Fin (cfgM m hO).N → Vec F S1x1x512x256 .bf16) (c : Dev nD) (t : Fin (cfgM m hO).N) : (dats m hO B 0 c).after 5 t = iblk m hO c 5 t := by dsimp only [dats]; try rfl
theorem after0_6 (hO : Ok m) (B : (c : Dev nD) → Fin (cfgM m hO).N → Vec F S1x1x512x256 .bf16) (c : Dev nD) (t : Fin (cfgM m hO).N) : (dats m hO B 0 c).after 6 t = B c t := by dsimp only [dats]; try rfl

/-- Each input's current staging buffer holds its block at every point, fetched there or not (`beforeK_W_of`). -/
theorem before0_0 (hO : Ok m) (B : (c : Dev nD) → Fin (cfgM m hO).N → Vec F S1x1x512x256 .bf16) (c : Dev nD) (t : Fin (cfgM m hO).N) (d) : (dats m hO B 0 c).before 0 t d = iblk m hO c 0 t :=
  before0_0_of m hO (dats m hO B 0 c) (A_eq m hO B c 0) (after0_0 m hO B c) t d
theorem before0_1 (hO : Ok m) (B : (c : Dev nD) → Fin (cfgM m hO).N → Vec F S1x1x512x256 .bf16) (c : Dev nD) (t : Fin (cfgM m hO).N) (d) : (dats m hO B 0 c).before 1 t d = iblk m hO c 1 t :=
  before0_1_of m hO (dats m hO B 0 c) (A_eq m hO B c 1) (after0_1 m hO B c) t d
theorem before0_2 (hO : Ok m) (B : (c : Dev nD) → Fin (cfgM m hO).N → Vec F S1x1x512x256 .bf16) (c : Dev nD) (t : Fin (cfgM m hO).N) (d) : (dats m hO B 0 c).before 2 t d = iblk m hO c 2 t :=
  before0_2_of m hO (dats m hO B 0 c) (A_eq m hO B c 2) (after0_2 m hO B c) t d
theorem before0_3 (hO : Ok m) (B : (c : Dev nD) → Fin (cfgM m hO).N → Vec F S1x1x512x256 .bf16) (c : Dev nD) (t : Fin (cfgM m hO).N) (d) : (dats m hO B 0 c).before 3 t d = iblk m hO c 3 t :=
  before0_3_of m hO (dats m hO B 0 c) (A_eq m hO B c 3) (after0_3 m hO B c) t d
theorem before0_4 (hO : Ok m) (B : (c : Dev nD) → Fin (cfgM m hO).N → Vec F S1x1x512x256 .bf16) (c : Dev nD) (t : Fin (cfgM m hO).N) (d) : (dats m hO B 0 c).before 4 t d = iblk m hO c 4 t :=
  before0_4_of m hO (dats m hO B 0 c) (A_eq m hO B c 4) (after0_4 m hO B c) t d
theorem before0_5 (hO : Ok m) (B : (c : Dev nD) → Fin (cfgM m hO).N → Vec F S1x1x512x256 .bf16) (c : Dev nD) (t : Fin (cfgM m hO).N) (d) : (dats m hO B 0 c).before 5 t d = iblk m hO c 5 t :=
  before0_5_of m hO (dats m hO B 0 c) (A_eq m hO B c 5) (after0_5 m hO B c) t d

/-! ## The body obligation, at a generic point -/

/-- What the body is called with at point `t` (Lib/Pipeline.lean `BodyObligation`'s precondition, the windows one by one), -/
def bodyPreF (hO : Ok m) (B : (c : Dev nD) → Fin (cfgM m hO).N → Vec F S1x1x512x256 .bf16) (c : Dev nD) (t : Fin (cfgM m hO).N) : sProp 𝕄 :=
  iprop((dats m hO B 0 c).Φ t.castSucc ∗ (dats m hO B 0 c).owesAt () t.castSucc
    ∗ (∃ d, owns (c : Thread nD τ) (ms0_0 m hO t) fullShare ((dats m hO B 0 c).before 0 t d))
    ∗ (∃ d, owns (c : Thread nD τ) (ms0_1 m hO t) fullShare ((dats m hO B 0 c).before 1 t d))
    ∗ (∃ d, owns (c : Thread nD τ) (ms0_2 m hO t) fullShare ((dats m hO B 0 c).before 2 t d))
    ∗ (∃ d, owns (c : Thread nD τ) (ms0_3 m hO t) fullShare ((dats m hO B 0 c).before 3 t d))
    ∗ (∃ d, owns (c : Thread nD τ) (ms0_4 m hO t) fullShare ((dats m hO B 0 c).before 4 t d))
    ∗ (∃ d, owns (c : Thread nD τ) (ms0_5 m hO t) fullShare ((dats m hO B 0 c).before 5 t d))
    ∗ (∃ X, owns (c : Thread nD τ) (ms0_6 m hO t) fullShare X))

/-- and what it returns. -/
def bodyPostF (hO : Ok m) (B : (c : Dev nD) → Fin (cfgM m hO).N → Vec F S1x1x512x256 .bf16) (c : Dev nD) (t : Fin (cfgM m hO).N) : sProp 𝕄 :=
  iprop((dats m hO B 0 c).Φ t.succ ∗ (dats m hO B 0 c).owesAt () t.succ
    ∗ owns (c : Thread nD τ) (ms0_0 m hO t) fullShare ((dats m hO B 0 c).after 0 t)
    ∗ owns (c : Thread nD τ) (ms0_1 m hO t) fullShare ((dats m hO B 0 c).after 1 t)
    ∗ owns (c : Thread nD τ) (ms0_2 m hO t) fullShare ((dats m hO B 0 c).after 2 t)
    ∗ owns (c : Thread nD τ) (ms0_3 m hO t) fullShare ((dats m hO B 0 c).after 3 t)
    ∗ owns (c : Thread nD τ) (ms0_4 m hO t) fullShare ((dats m hO B 0 c).after 4 t)
    ∗ owns (c : Thread nD τ) (ms0_5 m hO t) fullShare ((dats m hO B 0 c).after 5 t)
    ∗ (∃ X, owns (c : Thread nD τ) (ms0_6 m hO t) fullShare X))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_bodyF (hO : Ok m) (B : (c : Dev nD) → Fin (cfgM m hO).N → Vec F S1x1x512x256 .bf16) (hH : Hyps m hO) (c : Dev nD) (t : Fin (cfgM m hO).N) :
    bodyPreF m hO B c t ⊢ wp frame (wpE (defs₀ (F := F)) Variants.none c none) Set.univ (bodyAt0 (adm m hO) t) (fun _ => bodyPostF m hO B c t) := by
  unfold bodyPreF bodyPostF bodyAt0
  simp only [before0_0, before0_1, before0_2, before0_3, before0_4, before0_5]
  rw [show (dats m hO B 0 c).Φ t.succ = (dats m hO B 0 c).Φ t.castSucc from rfl,
    show (dats m hO B 0 c).owesAt () t.succ = (dats m hO B 0 c).owesAt () t.castSucc from rfl,
    after0_0, after0_1, after0_2, after0_3, after0_4, after0_5]
  rw [show (dats m hO B 0 c).Φ t.castSucc = iprop(Pipeline.ΦA spec0 c ∗ Pipeline.ΦT pre0 (tbl m) c) from rfl, PhiT0_eq, PhiA0_eq]
  iintro ⟨⟨⟨⟨⟨%xs0, HS0⟩, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) xs0 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HT0]; · iexact HT0
  iintro ⟨H0, H1, H2, H3, H4, H5, ⟨%e6, H6⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _, _; isplitr
  swap; · iexact H6
  ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is the window nothing is said of. -/
def fgt : Fin 7 → Bool := fun w => match w with
  | ⟨0, _⟩ => false | ⟨1, _⟩ => false | ⟨2, _⟩ => false | ⟨3, _⟩ => false | ⟨4, _⟩ => false | ⟨5, _⟩ => false | ⟨6, _⟩ => true

/-- The library's body obligation with the output forgotten. -/
theorem body_obligationF (hO : Ok m) (B : (c : Dev nD) → Fin (cfgM m hO).N → Vec F S1x1x512x256 .bf16) (hH : Hyps m hO) (c : Dev nD) : BodyObligation (dats (F := F) m hO B 0 c) (defs₀ (F := F)) Variants.none () Set.univ fgt := fun t => by
  rw [bigSep_W0, bigSep_W0, defs₀_row m hO]
  exact triple_restated (sound_bodyF m hO B hH c t) rfl .rfl fun _ => .rfl

set_option backward.isDefEq.respectTransparency.types false in
/-- The launch with the output forgotten: every array at some contents it may hold, the inputs as they were, the counters at zero. -/
theorem run_mainF (hO : Ok m) (B : (c : Dev nD) → Fin (cfgM m hO).N → Vec F S1x1x512x256 .bf16) (hH : Hyps m hO) : θ_run defs (onTc (τ := τ) (main (F := F))) (s₀ m ρ) (fun r => (Pipeline.RDat.FramePost ((Pipeline.pin pcfgs fun _ => adm m hO) 0) (fun c => (dats m hO B 0 c).toRForget fgt) (V m)) r ∧ r.2.sem = fun _ => 0) :=
  Pipeline.θ_run_frameP_forget (Q' := _) pcfgs (fun _ => adm m hO) (dats m hO B) (0 : Fin 1) launch0 defs₀ Variants.none fgt m ρ main
    (hbody := fun c => (body_obligationF m hO B hH c).loose) (hshare := fun c => (dats m hO B 0 c).share_full fun _ => rfl)
    (howed := fun _ _ => rfl) (V := V m) (hmain := hmain m Variants.none) (hA := A_eq m hO B) (hpf := V_pre m)
    (hΦ := fun _ _ => rfl)

/-- THE FRAME, at any values: every execution ends, the arguments are unchanged and every counter is at zero. -/
theorem quiescent (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have key : ∀ w : Fin 7, fgt w = false → ((Pipeline.pin pcfgs fun _ => adm m hO) 0 |>.win w).isOut = false →
        r.2.mem ((((Pipeline.pin pcfgs fun _ => adm m hO) 0).spec w).arr.view.loc (c.tc : Thread nD τ)) = V m c (Pipeline.arrRef spec0 w) := fun w hw ho =>
      ((((dats m hO (fun c t => VO0_6.read (Elt F) VO0_6.junk) 0 c).toRForget_arrAt_iff hw _ _).mp ((h.1 c).1 w)).trans ((dats m hO (fun c t => VO0_6.read (Elt F) VO0_6.junk) 0 c).arrAt_in w ho _)).trans (A_eq m hO _ c w)
    ⟨key 0 rfl rfl, key 1 rfl rfl, key 2 rfl rfl, key 3 rfl rfl, key 4 rfl rfl, key 5 rfl rfl,
      ((h.1 c).2 main_arg6 (by decide : main_arg6 ∈ Pipeline.restRefs sig spec0))⟩, h.2⟩)
    (run_mainF m ρ hO (fun c t => VO0_6.read (Elt F) VO0_6.junk) hH)

end Cert.Attend.Gen

end
-- ==== Proof.AttendIdeal.Points.lean ====
module

public import proofs.«01_k».proof.Proof.Gen.AttendIdeal
public import Idealize.ShloMosaic.Lib.Pipeline.Kit

@[expose] public section

noncomputable section

namespace Cert.AttendIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 2 (fun _ => rfl) (by decide)) (P := 1) (by decide) t).mpr (Nat.mod_one _) : ∀ t : Fin grid0.N, Pipeline.Window.fetchOf grid0 false cc0_transform_0 t = true)
/-- Window 1 (operand 2 (%arg1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 2 (by decide) (by decide) (Pipeline.Window.sep_of_coord cc0_transform_1 2 2 (fun _ => rfl) (by decide)) (P := 1) (by decide) t).mpr (Nat.mod_one _) : ∀ t : Fin grid0.N, Pipeline.Window.fetchOf grid0 false cc0_transform_1 t = true)
/-- Window 2 (operand 3 (%arg2)) is fetched at the points ≡ 0 (mod 16), at any contents of the tables (its index map reads none). -/
theorem fetch0_2 (a : (pcfg0 (F := F)).Adm) : ∀ t : Fin (cfg0 a).N, ((cfg0 a).win 2).fetch t = true ↔ t.val % 16 = 0 :=
  (fun t => Pipeline.Window.fetchOf_reads cc0_transform_2 reads0_2 hreads0_2 1 (by decide) (by decide) (Pipeline.Window.sep_of_coord cc0_transform_2 1 1 (fun _ => rfl) (by decide)) (P := 16) (by decide) t : ∀ t : Fin grid0.N, Pipeline.Window.fetchOf grid0 false cc0_transform_2 t = true ↔ t.val % 16 = 0)
/-- Window 3 (operand 4 (%arg3)) is fetched at the points ≡ 0 (mod 16), at any contents of the tables (its index map reads none). -/
theorem fetch0_3 (a : (pcfg0 (F := F)).Adm) : ∀ t : Fin (cfg0 a).N, ((cfg0 a).win 3).fetch t = true ↔ t.val % 16 = 0 :=
  (fun t => Pipeline.Window.fetchOf_reads cc0_transform_3 reads0_3 hreads0_3 1 (by decide) (by decide) (Pipeline.Window.sep_of_coord cc0_transform_3 1 1 (fun _ => rfl) (by decide)) (P := 16) (by decide) t : ∀ t : Fin grid0.N, Pipeline.Window.fetchOf grid0 false cc0_transform_3 t = true ↔ t.val % 16 = 0)
/-- Window 4 (operand 5 (%arg4)) is fetched at the points ≡ 0 (mod 16), at any contents of the tables (its index map reads none). -/
theorem fetch0_4 (a : (pcfg0 (F := F)).Adm) : ∀ t : Fin (cfg0 a).N, ((cfg0 a).win 4).fetch t = true ↔ t.val % 16 = 0 :=
  (fun t => Pipeline.Window.fetchOf_reads cc0_transform_4 reads0_4 hreads0_4 1 (by decide) (by decide) (Pipeline.Window.sep_of_coord cc0_transform_4 1 1 (fun _ => rfl) (by decide)) (P := 16) (by decide) t : ∀ t : Fin grid0.N, Pipeline.Window.fetchOf grid0 false cc0_transform_4 t = true ↔ t.val % 16 = 0)
/-- Window 5 (operand 6 (%arg5)) is fetched at the points ≡ 0 (mod 16), at any contents of the tables (its index map reads none). -/
theorem fetch0_5 (a : (pcfg0 (F := F)).Adm) : ∀ t : Fin (cfg0 a).N, ((cfg0 a).win 5).fetch t = true ↔ t.val % 16 = 0 :=
  (fun t => Pipeline.Window.fetchOf_reads cc0_transform_5 reads0_5 hreads0_5 1 (by decide) (by decide) (Pipeline.Window.sep_of_coord cc0_transform_5 1 1 (fun _ => rfl) (by decide)) (P := 16) (by decide) t : ∀ t : Fin grid0.N, Pipeline.Window.fetchOf grid0 false cc0_transform_5 t = true ↔ t.val % 16 = 0)
/-- Window 6 (result 0 (%0)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 2 (by decide) (by decide) (Pipeline.Window.sep_of_coord cc0_transform_6 2 2 (fun _ => rfl) (by decide)) (P := 1) (m := 0) (by decide) rfl t).mpr (Nat.mod_one _) : ∀ t : Fin grid0.N, Pipeline.Window.flushOf grid0 true cc0_transform_6 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_arg6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.AttendIdeal.Gen

end
-- ==== Proof.AttendIdeal.Runs.lean ====
module

public import proofs.«01_k».proof.Proof.Gen.AttendIdeal.Launch
public import proofs.«01_k».proof.Proof.Gen.AttendIdeal.Skeleton
public import proofs.«01_k».proof.Proof.Gen.AttendIdeal.Loops
public import proofs.«01_k».proof.Proof.AttendIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S8 .i32 := Memref.whole main_arg6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AttendIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 6, through which its contents are stated (`View.read_writes_of_cover`: the
    choice does not matter). -/
abbrev VO0_6 : View sig .tc .vmem S1x1x512x256 .bf16 := (Memref.whole cc0_stg6_0 : Memref sig .tc .vmem S1x1x512x256 .bf16).view
/-- Each window's current staging memref at point `t`, spelled as the pipeline passes it (`bodyAt0`), and its wholeness. -/
abbrev ms0_0 (hO : Ok m) (t : Fin (cfgM m hO).N) : Memref sig .tc .vmem S1x1x512x256 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1x1x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x8192x256 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x16x1x512 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x8192x256 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x512x256 .bf16 := spec0_6.stage ((cfgM m hO).slots t 6)
abbrev hs0_6 (hO : Ok m) (t : Fin (cfgM m hO).N) : (ms0_6 m hO t).IsWhole := hstage0_6 (((cfgM m hO).slots t 6).cast nbuf0_6)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S8) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S16x512x512 .f32 := Memref.whole cc0_scratch0
abbrev scM0_1 : Memref sig .tc .vmem S512x128 .f32 := Memref.whole cc0_scratch1
abbrev scM0_2 : Memref sig .tc .vmem S512x128 .f32 := Memref.whole cc0_scratch2
abbrev scM0_3 : Memref sig .tc .vmem S512x256 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AttendIdeal.Gen

end
-- ==== Proof.AttendIdeal.RunA.lean ====
module

public import proofs.«01_k».proof.Proof.AttendIdeal.Runs

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (tbM0_0.view.readAt (Elt F) (Rect.unit (s := S8) (k0_off1 i) S1.size (k0_off1_inb i)).toLoadRect xt0 (Shape.Idx.first (numel1_S1.symm ▸ Nat.one_pos)))) :
    { L6 : List (View.Piece (Elt F) S1x1x512x256 .bf16) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d) ∗ owns (c : Thread nD τ) arg11 fullShare xs0 ∗ (∃ d, owns (c : Thread nD τ) arg12 fullShare d) ∗ (∃ d, owns (c : Thread nD τ) arg13 fullShare d) ∗ (∃ d, owns (c : Thread nD τ) arg14 fullShare d) ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ f, arg10.view.loc (c : Thread nD τ) ↦[arg10.view.set]{fullShare} arg10.view.writes (Elt F) f L6) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0) -∗ K ⟨⟩))
          ⊢ wp frame (wpE (defs₀ (F := F)) Variants.none c none) E (cc0_attend i tbM0_0 htbM0_0 arg4 harg4 arg5 harg5 arg6 harg6 arg7 harg7 arg8 harg8 arg9 harg9 arg10 harg10 arg11 harg11 arg12 harg12 arg13 harg13 arg14 harg14) K } := by
  refine ⟨?_, fun E K => ?run⟩
  case run =>
    simp only [cc0_attend_eq_skeleton]; unfold cc0_attend_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, ⟨%ds2, %fs2, -, HS2⟩, ⟨%ds3, %fs3, -, HS3⟩, HT0, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg11.eq_unread hfs0
    sl_exec (disch := first | sl_exact k0_hw1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.AttendIdeal.Gen

end
-- ==== Proof.AttendIdeal.Frame.lean ====
module

public import proofs.«01_k».proof.Proof.AttendIdeal.RunA
public import Idealize.ShloMosaic.Lib.Claim

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at `B`; the invariant the class's
    (Lib/Pipeline/Frame.lean `ΦA`: the scoped rest and the generator register) and the tables' halves (`ΦT`); nothing owed;
    full shares. -/
def dats (hO : Ok m) (B : (c : Dev nD) → Fin (cfgM m hO).N → Vec F S1x1x512x256 .bf16) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => B c t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (B : (c : Dev nD) → Fin (cfgM m hO).N → Vec F S1x1x512x256 .bf16) (c : Dev nD) (w : Fin (cfgM m hO).W) : (dats m hO B 0 c).A w = V m c (Pipeline.arrRef spec0 w) := by
  dsimp only [dats]

/-- What the body leaves, window by window (the proof data's `match` reduced by `dsimp`). -/
theorem after0_0 (hO : Ok m) (B : (c : Dev nD) → Fin (cfgM m hO).N → Vec F S1x1x512x256 .bf16) (c : Dev nD) (t : Fin (cfgM m hO).N) : (dats m hO B 0 c).after 0 t = iblk m hO c 0 t := by dsimp only [dats]; try rfl
theorem after0_1 (hO : Ok m) (B : (c : Dev nD) → Fin (cfgM m hO).N → Vec F S1x1x512x256 .bf16) (c : Dev nD) (t : Fin (cfgM m hO).N) : (dats m hO B 0 c).after 1 t = iblk m hO c 1 t := by dsimp only [dats]; try rfl
theorem after0_2 (hO : Ok m) (B : (c : Dev nD) → Fin (cfgM m hO).N → Vec F S1x1x512x256 .bf16) (c : Dev nD) (t : Fin (cfgM m hO).N) : (dats m hO B 0 c).after 2 t = iblk m hO c 2 t := by dsimp only [dats]; try rfl
theorem after0_3 (hO : Ok m) (B : (c : Dev nD) → Fin (cfgM m hO).N → Vec F S1x1x512x256 .bf16) (c : Dev nD) (t : Fin (cfgM m hO).N) : (dats m hO B 0 c).after 3 t = iblk m hO c 3 t := by dsimp only [dats]; try rfl
theorem after0_4 (hO : Ok m) (B : (c : Dev nD) → Fin (cfgM m hO).N → Vec F S1x1x512x256 .bf16) (c : Dev nD) (t : Fin (cfgM m hO).N) : (dats m hO B 0 c).after 4 t = iblk m hO c 4 t := by dsimp only [dats]; try rfl
theorem after0_5 (hO : Ok m) (B : (c : Dev nD) → Fin (cfgM m hO).N → Vec F S1x1x512x256 .bf16) (c : Dev nD) (t : Fin (cfgM m hO).N) : (dats m hO B 0 c).after 5 t = iblk m hO c 5 t := by dsimp only [dats]; try rfl
theorem after0_6 (hO : Ok m) (B : (c : Dev nD) → Fin (cfgM m hO).N → Vec F S1x1x512x256 .bf16) (c : Dev nD) (t : Fin (cfgM m hO).N) : (dats m hO B 0 c).after 6 t = B c t := by dsimp only [dats]; try rfl

/-- Each input's current staging buffer holds its block at every point, fetched there or not (`beforeK_W_of`). -/
theorem before0_0 (hO : Ok m) (B : (c : Dev nD) → Fin (cfgM m hO).N → Vec F S1x1x512x256 .bf16) (c : Dev nD) (t : Fin (cfgM m hO).N) (d) : (dats m hO B 0 c).before 0 t d = iblk m hO c 0 t :=
  before0_0_of m hO (dats m hO B 0 c) (A_eq m hO B c 0) (after0_0 m hO B c) t d
theorem before0_1 (hO : Ok m) (B : (c : Dev nD) → Fin (cfgM m hO).N → Vec F S1x1x512x256 .bf16) (c : Dev nD) (t : Fin (cfgM m hO).N) (d) : (dats m hO B 0 c).before 1 t d = iblk m hO c 1 t :=
  before0_1_of m hO (dats m hO B 0 c) (A_eq m hO B c 1) (after0_1 m hO B c) t d
theorem before0_2 (hO : Ok m) (B : (c : Dev nD) → Fin (cfgM m hO).N → Vec F S1x1x512x256 .bf16) (c : Dev nD) (t : Fin (cfgM m hO).N) (d) : (dats m hO B 0 c).before 2 t d = iblk m hO c 2 t :=
  before0_2_of m hO (dats m hO B 0 c) (A_eq m hO B c 2) (after0_2 m hO B c) t d
theorem before0_3 (hO : Ok m) (B : (c : Dev nD) → Fin (cfgM m hO).N → Vec F S1x1x512x256 .bf16) (c : Dev nD) (t : Fin (cfgM m hO).N) (d) : (dats m hO B 0 c).before 3 t d = iblk m hO c 3 t :=
  before0_3_of m hO (dats m hO B 0 c) (A_eq m hO B c 3) (after0_3 m hO B c) t d
theorem before0_4 (hO : Ok m) (B : (c : Dev nD) → Fin (cfgM m hO).N → Vec F S1x1x512x256 .bf16) (c : Dev nD) (t : Fin (cfgM m hO).N) (d) : (dats m hO B 0 c).before 4 t d = iblk m hO c 4 t :=
  before0_4_of m hO (dats m hO B 0 c) (A_eq m hO B c 4) (after0_4 m hO B c) t d
theorem before0_5 (hO : Ok m) (B : (c : Dev nD) → Fin (cfgM m hO).N → Vec F S1x1x512x256 .bf16) (c : Dev nD) (t : Fin (cfgM m hO).N) (d) : (dats m hO B 0 c).before 5 t d = iblk m hO c 5 t :=
  before0_5_of m hO (dats m hO B 0 c) (A_eq m hO B c 5) (after0_5 m hO B c) t d

/-! ## The body obligation, at a generic point -/

/-- What the body is called with at point `t` (Lib/Pipeline.lean `BodyObligation`'s precondition, the windows one by one), -/
def bodyPreF (hO : Ok m) (B : (c : Dev nD) → Fin (cfgM m hO).N → Vec F S1x1x512x256 .bf16) (c : Dev nD) (t : Fin (cfgM m hO).N) : sProp 𝕄 :=
  iprop((dats m hO B 0 c).Φ t.castSucc ∗ (dats m hO B 0 c).owesAt () t.castSucc
    ∗ (∃ d, owns (c : Thread nD τ) (ms0_0 m hO t) fullShare ((dats m hO B 0 c).before 0 t d))
    ∗ (∃ d, owns (c : Thread nD τ) (ms0_1 m hO t) fullShare ((dats m hO B 0 c).before 1 t d))
    ∗ (∃ d, owns (c : Thread nD τ) (ms0_2 m hO t) fullShare ((dats m hO B 0 c).before 2 t d))
    ∗ (∃ d, owns (c : Thread nD τ) (ms0_3 m hO t) fullShare ((dats m hO B 0 c).before 3 t d))
    ∗ (∃ d, owns (c : Thread nD τ) (ms0_4 m hO t) fullShare ((dats m hO B 0 c).before 4 t d))
    ∗ (∃ d, owns (c : Thread nD τ) (ms0_5 m hO t) fullShare ((dats m hO B 0 c).before 5 t d))
    ∗ (∃ X, owns (c : Thread nD τ) (ms0_6 m hO t) fullShare X))

/-- and what it returns. -/
def bodyPostF (hO : Ok m) (B : (c : Dev nD) → Fin (cfgM m hO).N → Vec F S1x1x512x256 .bf16) (c : Dev nD) (t : Fin (cfgM m hO).N) : sProp 𝕄 :=
  iprop((dats m hO B 0 c).Φ t.succ ∗ (dats m hO B 0 c).owesAt () t.succ
    ∗ owns (c : Thread nD τ) (ms0_0 m hO t) fullShare ((dats m hO B 0 c).after 0 t)
    ∗ owns (c : Thread nD τ) (ms0_1 m hO t) fullShare ((dats m hO B 0 c).after 1 t)
    ∗ owns (c : Thread nD τ) (ms0_2 m hO t) fullShare ((dats m hO B 0 c).after 2 t)
    ∗ owns (c : Thread nD τ) (ms0_3 m hO t) fullShare ((dats m hO B 0 c).after 3 t)
    ∗ owns (c : Thread nD τ) (ms0_4 m hO t) fullShare ((dats m hO B 0 c).after 4 t)
    ∗ owns (c : Thread nD τ) (ms0_5 m hO t) fullShare ((dats m hO B 0 c).after 5 t)
    ∗ (∃ X, owns (c : Thread nD τ) (ms0_6 m hO t) fullShare X))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_bodyF (hO : Ok m) (B : (c : Dev nD) → Fin (cfgM m hO).N → Vec F S1x1x512x256 .bf16) (hH : Hyps m hO) (c : Dev nD) (t : Fin (cfgM m hO).N) :
    bodyPreF m hO B c t ⊢ wp frame (wpE (defs₀ (F := F)) Variants.none c none) Set.univ (bodyAt0 (adm m hO) t) (fun _ => bodyPostF m hO B c t) := by
  unfold bodyPreF bodyPostF bodyAt0
  simp only [before0_0, before0_1, before0_2, before0_3, before0_4, before0_5]
  rw [show (dats m hO B 0 c).Φ t.succ = (dats m hO B 0 c).Φ t.castSucc from rfl,
    show (dats m hO B 0 c).owesAt () t.succ = (dats m hO B 0 c).owesAt () t.castSucc from rfl,
    after0_0, after0_1, after0_2, after0_3, after0_4, after0_5]
  rw [show (dats m hO B 0 c).Φ t.castSucc = iprop(Pipeline.ΦA spec0 c ∗ Pipeline.ΦT pre0 (tbl m) c) from rfl, PhiT0_eq, PhiA0_eq]
  iintro ⟨⟨⟨⟨⟨%xs0, HS0⟩, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) xs0 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HT0]; · iexact HT0
  iintro ⟨H0, H1, H2, H3, H4, H5, ⟨%e6, H6⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _, _; isplitr
  swap; · iexact H6
  ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is the window nothing is said of. -/
def fgt : Fin 7 → Bool := fun w => match w with
  | ⟨0, _⟩ => false | ⟨1, _⟩ => false | ⟨2, _⟩ => false | ⟨3, _⟩ => false | ⟨4, _⟩ => false | ⟨5, _⟩ => false | ⟨6, _⟩ => true

/-- The library's body obligation with the output forgotten. -/
theorem body_obligationF (hO : Ok m) (B : (c : Dev nD) → Fin (cfgM m hO).N → Vec F S1x1x512x256 .bf16) (hH : Hyps m hO) (c : Dev nD) : BodyObligation (dats (F := F) m hO B 0 c) (defs₀ (F := F)) Variants.none () Set.univ fgt := fun t => by
  rw [bigSep_W0, bigSep_W0, defs₀_row m hO]
  exact triple_restated (sound_bodyF m hO B hH c t) rfl .rfl fun _ => .rfl

set_option backward.isDefEq.respectTransparency.types false in
/-- The launch with the output forgotten: every array at some contents it may hold, the inputs as they were, the counters at zero. -/
theorem run_mainF (hO : Ok m) (B : (c : Dev nD) → Fin (cfgM m hO).N → Vec F S1x1x512x256 .bf16) (hH : Hyps m hO) : θ_run defs (onTc (τ := τ) (main (F := F))) (s₀ m ρ) (fun r => (Pipeline.RDat.FramePost ((Pipeline.pin pcfgs fun _ => adm m hO) 0) (fun c => (dats m hO B 0 c).toRForget fgt) (V m)) r ∧ r.2.sem = fun _ => 0) :=
  Pipeline.θ_run_frameP_forget (Q' := _) pcfgs (fun _ => adm m hO) (dats m hO B) (0 : Fin 1) launch0 defs₀ Variants.none fgt m ρ main
    (hbody := fun c => (body_obligationF m hO B hH c).loose) (hshare := fun c => (dats m hO B 0 c).share_full fun _ => rfl)
    (howed := fun _ _ => rfl) (V := V m) (hmain := hmain m Variants.none) (hA := A_eq m hO B) (hpf := V_pre m)
    (hΦ := fun _ _ => rfl)

/-- THE FRAME, at any values: every execution ends, the arguments are unchanged and every counter is at zero. -/
theorem quiescent (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have key : ∀ w : Fin 7, fgt w = false → ((Pipeline.pin pcfgs fun _ => adm m hO) 0 |>.win w).isOut = false →
        r.2.mem ((((Pipeline.pin pcfgs fun _ => adm m hO) 0).spec w).arr.view.loc (c.tc : Thread nD τ)) = V m c (Pipeline.arrRef spec0 w) := fun w hw ho =>
      ((((dats m hO (fun c t => VO0_6.read (Elt F) VO0_6.junk) 0 c).toRForget_arrAt_iff hw _ _).mp ((h.1 c).1 w)).trans ((dats m hO (fun c t => VO0_6.read (Elt F) VO0_6.junk) 0 c).arrAt_in w ho _)).trans (A_eq m hO _ c w)
    ⟨key 0 rfl rfl, key 1 rfl rfl, key 2 rfl rfl, key 3 rfl rfl, key 4 rfl rfl, key 5 rfl rfl,
      ((h.1 c).2 main_arg6 (by decide : main_arg6 ∈ Pipeline.restRefs sig spec0))⟩, h.2⟩)
    (run_mainF m ρ hO (fun c t => VO0_6.read (Elt F) VO0_6.junk) hH)

end Cert.AttendIdeal.Gen

end
-- ==== Proof.Pre.lean ====
/- What the frames' precondition says of the arguments, every length at most 8192, and the two frames from it. -/
module

public import proofs.«01_k».proof.Defs
public import proofs.«01_k».proof.Proof.Words
public import proofs.«01_k».proof.Proof.WordsI
public import proofs.«01_k».proof.Proof.Attend.Frame
public import proofs.«01_k».proof.Proof.AttendIdeal.Frame
public import proofs.«01_k».proof.Proof.Gen.Pre_lens_fit
public import Idealize.ShloMosaic.Lib.ReduceAll
public import Idealize.ShloMosaic.Lib.Affine

@[expose] public section

namespace Cert.Proof

open Idealize.ShloMosaic Idealize.ShloMosaic.TcCoe

instance : Subsingleton Cert.Pre_lens_fit.S_.Idx := ⟨fun a b => funext fun i => i.elim0⟩

/-- The predicate on the lengths says each is at most 8192. -/
theorem lens_of_fit {F : FTy → Type} [FloatOps F] (a0 a1 a2 a3 a4 a5 a6)
    (h : (Cert.Pre_lens_fit.fn (F := F) a0 a1 a2 a3 a4 a5 a6) = fun _ => 1#1) (b : Cert.Pre_lens_fit.S8.Idx) : (a6 b).toInt ≤ 8192 := by
  have h0 := congrFun h (fun i => i.elim0)
  dsimp only [Cert.Pre_lens_fit.fn] at h0
  have h1 := Host.reduce_andi_all _ _ _ _ _ h0 b
  have h2 := IntOp.cmpi_sle.1 (show IntOp.cmpi .sle (a6 b) 8192#32 = 1#1 from h1)
  rwa [show (8192#32 : BitVec 32).toInt = 8192 by decide] at h2

section
open Cert.Attend Cert.Attend.Gen
/-- No block of any window depends on the lengths, and every length is one the body's reads and stores fit. -/
theorem hyps_attend {F : FTy → Type} [FloatOps F] (m : (ℓ : Loc nD τ sig) → Buf (Elt F) ℓ) (h : ∀ b : S8.Idx, (tbl m 0 b : BitVec 32).toInt ≤ 8192) (hO : Ok m) : Hyps m hO :=
  fun c t => Cert.Attend.Hand.chk1 _ (h _)
end

section
open Cert.AttendIdeal Cert.AttendIdeal.Gen
/-- No block of any window depends on the lengths, and every length is one the body's reads and stores fit. -/
theorem hyps_ideal {F : FTy → Type} [FloatOps F] [Named F] (m : (ℓ : Loc nD τ sig) → Buf (Elt F) ℓ) (h : ∀ b : S8.Idx, (tbl m 0 b : BitVec 32).toInt ≤ 8192) (hO : Ok m) : Hyps m hO :=
  fun c t => Cert.AttendIdeal.Hand.chk1 _ (h _)
end

/-- The kernel's frame: from lengths that fit, every execution ends, the arguments unchanged and the counters at zero. -/
theorem frame_attend : @Cert.quiescent_Attend Cert.Attend.Gen.facts Cert.Pre_lens_fit.Gen.facts := fun m g h =>
  Cert.Attend.Gen.quiescent m g trivial (hyps_attend m (fun b => lens_of_fit _ _ _ _ _ _ _ (h 0) b) trivial)

/-- The idealized kernel's frame, likewise. -/
theorem frame_ideal : @Cert.quiescent_AttendIdeal Cert.AttendIdeal.Gen.facts Cert.Pre_lens_fit.Gen.facts := fun m g h =>
  Cert.AttendIdeal.Gen.quiescent m g trivial (hyps_ideal m (fun b => lens_of_fit _ _ _ _ _ _ _ (h 0) b) trivial)

end Cert.Proof

end
-- ==== Proof.PreScales.lean ====
/- What the value claim's precondition says of the arguments: every length is at most 8192, every query scale positive and finite. -/
module

public import proofs.«01_k».proof.Proof.Pre
public import proofs.«01_k».proof.Proof.Gen.Pre_scales_ok
public import Idealize.ShloMosaic.Lib.IdealHost

@[expose] public section

namespace Cert.Proof

open Idealize.ShloMosaic Idealize.ShloMosaic.TcCoe

instance : Subsingleton Cert.Pre_scales_ok.S_.Idx := ⟨fun a b => funext fun i => i.elim0⟩

/-- The literal of infinity. -/
theorem ofBits_inf : Ideal.ofBits .f32 0x7F800000#32 = ⊤ := by
  simp [Ideal.ofBits, Ideal.ieee]

/-- The literal of minus infinity. -/
theorem ofBits_ninf : Ideal.ofBits .f32 0xFF800000#32 = ⊥ := by
  simp [Ideal.ofBits, Ideal.ieee]

/-- The predicate on the lengths and scales says each length is at most 8192, -/
theorem lens_of_ok {F : FTy → Type} [FloatOps F] (a0 a1 a2 a3 a4 a5 a6)
    (h : (Cert.Pre_scales_ok.fn (F := F) a0 a1 a2 a3 a4 a5 a6) = fun _ => 1#1) (b : Cert.Pre_scales_ok.S8.Idx) : (a6 b).toInt ≤ 8192 := by
  have h0 := congrFun h (fun i => i.elim0)
  dsimp only [Cert.Pre_scales_ok.fn] at h0
  have h1 := Host.reduce_andi_all _ _ _ _ _ (IntOp.andi_eq_one.1 h0).1 b
  have h2 := IntOp.cmpi_sle.1 (show IntOp.cmpi .sle (a6 b) 8192#32 = 1#1 from h1)
  rwa [show (8192#32 : BitVec 32).toInt = 8192 by decide] at h2

/-- and each scale is above zero and below infinity. -/
theorem scales_of_ok (a0 a1 a2 a3 a4 a5 a6)
    (h : (Cert.Pre_scales_ok.fn (F := Ideal) a0 a1 a2 a3 a4 a5 a6) = fun _ => 1#1) (j : Cert.Pre_scales_ok.S8x8x16x1x512.Idx) :
    (0 : EReal) < a1 j ∧ (a1 j : EReal) < ⊤ := by
  have h0 := congrFun h (fun i => i.elim0)
  dsimp only [Cert.Pre_scales_ok.fn] at h0
  have h1 := IntOp.andi_eq_one.1 (Host.reduce_andi_all _ _ _ _ _ (IntOp.andi_eq_one.1 h0).2 j)
  obtain ⟨h2, h3⟩ := h1
  have h4 : Ideal.cmp .ogt (a1 j) (Ideal.ofBits .f32 0x00000000#32) = 1#1 := h2
  have h5 : Ideal.cmp .olt (a1 j) (Ideal.ofBits .f32 0x7F800000#32) = 1#1 := h3
  rw [Ideal.ofBits_zero_f32] at h4
  rw [ofBits_inf] at h5
  unfold Ideal.cmp at h4 h5
  constructor
  · by_contra hn; simp [hn] at h4
  · by_contra hn; simp only [hn] at h5; exact absurd h5 (by decide)

/-- The idealized kernel's frame under the value claim's precondition. -/
theorem frame_ideal_scales : @Cert.quiescent_AttendIdeal_pre_scales_ok Cert.AttendIdeal.Gen.facts Cert.Pre_scales_ok.Gen.facts := fun m g h =>
  Cert.AttendIdeal.Gen.quiescent m g trivial (hyps_ideal m (fun b => lens_of_ok _ _ _ _ _ _ _ (h 0) b) trivial)

end Cert.Proof

end
-- ==== Proof.AttendIdeal.Named.lean ====
module

public import proofs.«01_k».proof.Proof.AttendIdeal.Frame
public import Idealize.ShloMosaic.Lib.Claim

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 6 tile its block (1 store of `S1x1x512x256`, checked by the kernel's evaluation: Lib/Ring.lean `Piece.tiledL`, linear in the pieces, through a loop's `@[irreducible]` trip theorem too), so they cover it. -/
theorem cover0_A_6 (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (tbM0_0.view.readAt (Elt F) (Rect.unit (s := S8) (k0_off1 i) S1.size (k0_off1_inb i)).toLoadRect xt0 (Shape.Idx.first (numel1_S1.symm ▸ Nat.one_pos)))) (y : S1x1x512x256.Idx) :
    ∃ pc ∈ (kernelRun0_A c i arg4 harg4 arg5 harg5 arg6 harg6 arg7 harg7 arg8 harg8 arg9 harg9 arg10 harg10 arg11 harg11 arg12 harg12 arg13 harg13 arg14 harg14 x0 x1 x2 x3 x4 x5 xs0 xt0 k0_hw1).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 x0 x1 x2 x3 x4 x5 xs0 xt0 k0_hw1).1 S1x1x512x256.size (by sl_kernel_rfl) y

/-- What the run leaves in output 6's staging buffer: its pieces read back over junk. -/
def out0_A_6 (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (tbM0_0.view.readAt (Elt F) (Rect.unit (s := S8) (k0_off1 i) S1.size (k0_off1_inb i)).toLoadRect xt0 (Shape.Idx.first (numel1_S1.symm ▸ Nat.one_pos)))) : Vec F S1x1x512x256 .bf16 :=
  VO0_6.read (Elt F) (VO0_6.writes (Elt F) VO0_6.junk (kernelRun0_A c i arg4 harg4 arg5 harg5 arg6 harg6 arg7 harg7 arg8 harg8 arg9 harg9 arg10 harg10 arg11 harg11 arg12 harg12 arg13 harg13 arg14 harg14 x0 x1 x2 x3 x4 x5 xs0 xt0 k0_hw1).1)

/-- What the body leaves in the output's staging buffer at point `t`, run at the point's memrefs, input blocks and table, when it
    finds the first scratch buffer at `xs0`. -/
def Out6 (hO : Ok m) (hH : Hyps m hO) (c : Dev nD) (t : Fin (cfgM m hO).N) (xs0 : Vec F S16x512x512 .f32) : Vec F S1x1x512x256 .bf16 :=
  out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) xs0 (tbl m 0) (Hyps.c0 hH c t)

/-! ## The body obligation, at a generic point -/

/-- What the body is called with at point `t` (Lib/Pipeline.lean `BodyObligation`'s precondition, the windows one by one), -/
def bodyPreN (hO : Ok m) (B : (c : Dev nD) → Fin (cfgM m hO).N → Vec F S1x1x512x256 .bf16) (c : Dev nD) (t : Fin (cfgM m hO).N) : sProp 𝕄 :=
  iprop((dats m hO B 0 c).Φ t.castSucc ∗ (dats m hO B 0 c).owesAt () t.castSucc
    ∗ (∃ d, owns (c : Thread nD τ) (ms0_0 m hO t) fullShare ((dats m hO B 0 c).before 0 t d))
    ∗ (∃ d, owns (c : Thread nD τ) (ms0_1 m hO t) fullShare ((dats m hO B 0 c).before 1 t d))
    ∗ (∃ d, owns (c : Thread nD τ) (ms0_2 m hO t) fullShare ((dats m hO B 0 c).before 2 t d))
    ∗ (∃ d, owns (c : Thread nD τ) (ms0_3 m hO t) fullShare ((dats m hO B 0 c).before 3 t d))
    ∗ (∃ d, owns (c : Thread nD τ) (ms0_4 m hO t) fullShare ((dats m hO B 0 c).before 4 t d))
    ∗ (∃ d, owns (c : Thread nD τ) (ms0_5 m hO t) fullShare ((dats m hO B 0 c).before 5 t d))
    ∗ (∃ d, owns (c : Thread nD τ) (ms0_6 m hO t) fullShare ((dats m hO B 0 c).before 6 t d)))

/-- and what it returns. -/
def bodyPostN (hO : Ok m) (B : (c : Dev nD) → Fin (cfgM m hO).N → Vec F S1x1x512x256 .bf16) (c : Dev nD) (t : Fin (cfgM m hO).N) : sProp 𝕄 :=
  iprop((dats m hO B 0 c).Φ t.succ ∗ (dats m hO B 0 c).owesAt () t.succ
    ∗ owns (c : Thread nD τ) (ms0_0 m hO t) fullShare ((dats m hO B 0 c).after 0 t)
    ∗ owns (c : Thread nD τ) (ms0_1 m hO t) fullShare ((dats m hO B 0 c).after 1 t)
    ∗ owns (c : Thread nD τ) (ms0_2 m hO t) fullShare ((dats m hO B 0 c).after 2 t)
    ∗ owns (c : Thread nD τ) (ms0_3 m hO t) fullShare ((dats m hO B 0 c).after 3 t)
    ∗ owns (c : Thread nD τ) (ms0_4 m hO t) fullShare ((dats m hO B 0 c).after 4 t)
    ∗ owns (c : Thread nD τ) (ms0_5 m hO t) fullShare ((dats m hO B 0 c).after 5 t)
    ∗ owns (c : Thread nD τ) (ms0_6 m hO t) fullShare ((dats m hO B 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_bodyN (hO : Ok m) (B : (c : Dev nD) → Fin (cfgM m hO).N → Vec F S1x1x512x256 .bf16) (hH : Hyps m hO) (hB : ∀ c t xs0, Out6 m hO hH c t xs0 = B c t) (c : Dev nD) (t : Fin (cfgM m hO).N) :
    bodyPreN m hO B c t ⊢ wp frame (wpE (defs₀ (F := F)) Variants.none c none) Set.univ (bodyAt0 (adm m hO) t) (fun _ => bodyPostN m hO B c t) := by
  unfold bodyPreN bodyPostN bodyAt0
  simp only [before0_0, before0_1, before0_2, before0_3, before0_4, before0_5]
  rw [show (dats m hO B 0 c).Φ t.succ = (dats m hO B 0 c).Φ t.castSucc from rfl,
    show (dats m hO B 0 c).owesAt () t.succ = (dats m hO B 0 c).owesAt () t.castSucc from rfl,
    after0_0, after0_1, after0_2, after0_3, after0_4, after0_5, after0_6]
  rw [show (dats m hO B 0 c).Φ t.castSucc = iprop(Pipeline.ΦA spec0 c ∗ Pipeline.ΦT pre0 (tbl m) c) from rfl, PhiT0_eq, PhiA0_eq]
  iintro ⟨⟨⟨⟨⟨%xs0, HS0⟩, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩⟩
  rw [← hB c t xs0]; unfold Out6 out0_A_6
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) xs0 (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HT0]; · iexact HT0
  iintro ⟨H0, H1, H2, H3, H4, H5, ⟨%e6, H6⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover0_A_6 c _ _ _ _ _ _ _ _ _ _ _ _ _ _ _ _ _ _ _ _ _ _ _ _ _ _ _ _ _ _ _ _)

/-- The library's body obligation with the output named: at every point the body leaves `B` in it, whatever it finds in scratch. -/
theorem body_obligationN (hO : Ok m) (B : (c : Dev nD) → Fin (cfgM m hO).N → Vec F S1x1x512x256 .bf16) (hH : Hyps m hO) (hB : ∀ c t xs0, Out6 m hO hH c t xs0 = B c t) (c : Dev nD) : BodyObligation (dats (F := F) m hO B 0 c) (defs₀ (F := F)) Variants.none () Set.univ := fun t => by
  rw [bigSep_W0, bigSep_W0, defs₀_row m hO]
  exact triple_restated (sound_bodyN m hO B hH hB c t) rfl .rfl fun _ => .rfl

set_option backward.isDefEq.respectTransparency.types false in
/-- The launch with the output named: the output array ends at what the blocks `B`, written back, make of it. -/
theorem run_mainN (hO : Ok m) (B : (c : Dev nD) → Fin (cfgM m hO).N → Vec F S1x1x512x256 .bf16) (hH : Hyps m hO) (hB : ∀ c t xs0, Out6 m hO hH c t xs0 = B c t) : θ_run defs (onTc (τ := τ) (main (F := F))) (s₀ m ρ) (fun r => (Pipeline.FramePost (Pipeline.pin pcfgs fun _ => adm m hO) (dats m hO B) 0 (V m)) r ∧ r.2.sem = fun _ => 0) :=
  Pipeline.θ_run_frameP (Q' := _) pcfgs (fun _ => adm m hO) (dats m hO B) (0 : Fin 1) launch0 defs₀ Variants.none m ρ main
    (hbody := fun c => (body_obligationN m hO B hH hB c).loose) (hshare := fun c => (dats m hO B 0 c).share_full fun _ => rfl)
    (howed := fun _ _ => rfl) (V := V m) (hmain := hmain m Variants.none) (hA := A_eq m hO B) (hpf := V_pre m)
    (hΦ := fun _ _ => rfl)

end Cert.AttendIdeal.Gen

end
-- ==== Proof.AttendIdeal.Block.lean ====
/- What one grid point of the attention computes, as plain recursions over the chunks of keys: the scores of each chunk and the running maximum, then the running sum and the running product. -/
module

public import proofs.«01_k».proof.Proof.AttendIdeal.Named
public import proofs.«01_k».proof.Proof.WordsI
public import Idealize.ShloMosaic.Lib.WritesUnit
public import Idealize.ShloMosaic.Lib.VecWindow

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scores of chunk `k` of the keys, masked past the row's length. -/
def T (v1 : Elt F .i32) (hw : k0_chk1 v1) (q : Vec F S1x1x512x256 .fp8e4m3) (K : Vec F S1x1x8192x256 .fp8e4m3) (ks : Vec F S1x1x16x1x512 .f32) (k : Fin (k0_t1_loop v1).trips) : Vec F S1x512x512 .f32 :=
  k0_pay5 v1 q k (View.ld K (Rect.unit (k0_off2 v1 k) S1x1x512x256.size (k0_off2_inb v1 hw k))) (View.ld ks (Rect.unit (k0_off3 v1 k) S1x1x1x1x512.size (k0_off3_inb v1 hw k)))

/-- The running maximum of the scores over the chunks before `k`. -/
def Mx (v1 : Elt F .i32) (hw : k0_chk1 v1) (q : Vec F S1x1x512x256 .fp8e4m3) (K : Vec F S1x1x8192x256 .fp8e4m3) (ks : Vec F S1x1x16x1x512 .f32) : ℕ → Vec F S512x128 .f32
  | 0 => k0_pay3 (F := F)
  | k + 1 => if h : k < (k0_t1_loop v1).trips then
      k0_pay6 v1 q ⟨k, h⟩ (View.ld K (Rect.unit (k0_off2 v1 ⟨k, h⟩) S1x1x512x256.size (k0_off2_inb v1 hw ⟨k, h⟩))) (View.ld ks (Rect.unit (k0_off3 v1 ⟨k, h⟩) S1x1x1x1x512.size (k0_off3_inb v1 hw ⟨k, h⟩))) (Mx v1 hw q K ks k)
    else Mx v1 hw q K ks k

/-- The running sum of the weights over the chunks before `k`. -/
def Lx (v1 : Elt F .i32) (v23 m : FVec F S512x128 .f32) (Tr : Fin (k0_t3_loop v1).trips → Vec F S1x512x512 .f32) : ℕ → Vec F S512x128 .f32
  | 0 => k0_pay13 (F := F)
  | k + 1 => if h : k < (k0_t3_loop v1).trips then k0_pay17 v23 m (Tr ⟨k, h⟩) (Lx v1 v23 m Tr k) else Lx v1 v23 m Tr k

/-- The running product of the weights with the values over the chunks before `k`. -/
def Ax (v1 : Elt F .i32) (hw : k0_chk1 v1) (v23 m : FVec F S512x128 .f32) (Tr : Fin (k0_t3_loop v1).trips → Vec F S1x512x512 .f32) (Vv : Vec F S1x1x8192x256 .fp8e4m3) : ℕ → Vec F S512x256 .f32
  | 0 => k0_pay14 (F := F)
  | k + 1 => if h : k < (k0_t3_loop v1).trips then
      k0_pay18 v23 m (Tr ⟨k, h⟩) (View.ld Vv (Rect.unit (k0_off9 v1 ⟨k, h⟩) S1x1x512x256.size (k0_off9_inb v1 hw ⟨k, h⟩))) (Ax v1 hw v23 m Tr Vv k)
    else Ax v1 hw v23 m Tr Vv k

theorem trip1_T (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v4 : Vec F S1x1x512x256 .fp8e4m3) (X_arg6 : BufTy.Contents (Elt F) arg6.view.ty) (X_arg7 : BufTy.Contents (Elt F) arg7.view.ty) (k : Fin (k0_t1_loop v1).trips) (acc f_arg11 f_arg12) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 k).2.1 acc f_arg11 f_arg12
      = [⟨Rect.unit (s := S16x512x512) (k0_off4 v1 k) S1x512x512.size (k0_off4_inb v1 k0_hw1 k), T v1 k0_hw1 v4 (arg6.view.read (Elt F) X_arg6) (arg7.view.read (Elt F) X_arg7) k⟩] := by
  unfold trip_k0_t1; rfl

theorem trip1_M (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v4 : Vec F S1x1x512x256 .fp8e4m3) (X_arg6 : BufTy.Contents (Elt F) arg6.view.ty) (X_arg7 : BufTy.Contents (Elt F) arg7.view.ty) (k : Fin (k0_t1_loop v1).trips) (acc f_arg11 f_arg12) :
    (trip_k0_t1 (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 k).2.2.1 acc f_arg11 f_arg12
      = [⟨Rect.unit (s := S512x128) ![0, 0] S512x128.size inb_S512x128_S512x128_0_0, k0_pay6 v1 v4 k (View.ld (arg6.view.read (Elt F) X_arg6) (Rect.unit (k0_off2 v1 k) S1x1x512x256.size (k0_off2_inb v1 k0_hw1 k))) (View.ld (arg7.view.read (Elt F) X_arg7) (Rect.unit (k0_off3 v1 k) S1x1x1x1x512.size (k0_off3_inb v1 k0_hw1 k)))
          (arg12.view.readAt (Elt F) (Rect.unit (s := S512x128) ![0, 0] S512x128.size inb_S512x128_S512x128_0_0).toLoadRect f_arg12)⟩] := by
  unfold trip_k0_t1; rfl

theorem trip3_L (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v3 : BitVec 32) (v23 : FVec F S512x128 .f32) (v30 : FVec F S512x128 .f32) (X_arg8 : BufTy.Contents (Elt F) arg8.view.ty) (X_arg11 : BufTy.Contents (Elt F) arg11.view.ty) (X_arg12 : BufTy.Contents (Elt F) arg12.view.ty) (k : Fin (k0_t3_loop v1).trips) (acc f_arg11 f_arg12) :
    (trip_k0_t3 (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 k).2.1 acc f_arg11 f_arg12
      = [⟨Rect.unit (s := S512x128) ![0, 0] S512x128.size inb_S512x128_S512x128_0_0, k0_pay17 v23 (arg12.view.readAt (Elt F) (Rect.unit (s := S512x128) ![0, 0] S512x128.size inb_S512x128_S512x128_0_0).toLoadRect X_arg12)
          (arg11.view.readAt (Elt F) (Rect.unit (s := S16x512x512) (k0_off8 v1 k) S1x512x512.size (k0_off8_inb v1 k0_hw1 k)).toLoadRect X_arg11)
          (arg13.view.readAt (Elt F) (Rect.unit (s := S512x128) ![0, 0] S512x128.size inb_S512x128_S512x128_0_0).toLoadRect f_arg11)⟩] := by
  unfold trip_k0_t3; rfl

theorem trip3_A (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v3 : BitVec 32) (v23 : FVec F S512x128 .f32) (v30 : FVec F S512x128 .f32) (X_arg8 : BufTy.Contents (Elt F) arg8.view.ty) (X_arg11 : BufTy.Contents (Elt F) arg11.view.ty) (X_arg12 : BufTy.Contents (Elt F) arg12.view.ty) (k : Fin (k0_t3_loop v1).trips) (acc f_arg11 f_arg12) :
    (trip_k0_t3 (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 k).2.2.1 acc f_arg11 f_arg12
      = [⟨Rect.unit (s := S512x256) ![0, 0] S512x256.size inb_S512x256_S512x256_0_0, k0_pay18 v23 (arg12.view.readAt (Elt F) (Rect.unit (s := S512x128) ![0, 0] S512x128.size inb_S512x128_S512x128_0_0).toLoadRect X_arg12)
          (arg11.view.readAt (Elt F) (Rect.unit (s := S16x512x512) (k0_off8 v1 k) S1x512x512.size (k0_off8_inb v1 k0_hw1 k)).toLoadRect X_arg11)
          (View.ld (arg8.view.read (Elt F) X_arg8) (Rect.unit (k0_off9 v1 k) S1x1x512x256.size (k0_off9_inb v1 k0_hw1 k)))
          (arg14.view.readAt (Elt F) (Rect.unit (s := S512x256) ![0, 0] S512x256.size inb_S512x256_S512x256_0_0).toLoadRect f_arg12)⟩] := by
  unfold trip_k0_t3; rfl

/-- The first pass before chunk `k`: the running maximum, and the scores of the chunks before, each in its slab. -/
theorem pass1 (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v4 : Vec F S1x1x512x256 .fp8e4m3) (X_arg6 : BufTy.Contents (Elt F) arg6.view.ty) (X_arg7 : BufTy.Contents (Elt F) arg7.view.ty) (hv : v1.toInt ≤ 8192) (G_arg11 G_arg12) (init : BitVec 32)
    (hG : arg12.view.read (Elt F) G_arg12 = k0_pay3 (F := F)) (k : ℕ) (hk : k ≤ (k0_t1_loop v1).trips) :
    arg12.view.read (Elt F) (arg12.view.writes (Elt F) G_arg12 (st_k0_t1 (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 G_arg11 G_arg12 init k).2.2)
        = Mx v1 k0_hw1 v4 (arg6.view.read (Elt F) X_arg6) (arg7.view.read (Elt F) X_arg7) k
      ∧ ∀ j : Fin (k0_t1_loop v1).trips, j.val < k → ∀ y : S1x512x512.Idx,
        arg11.view.read (Elt F) (arg11.view.writes (Elt F) G_arg11 (st_k0_t1 (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 G_arg11 G_arg12 init k).2.1)
            ((Rect.unit (s := S16x512x512) (k0_off4 v1 j) S1x512x512.size (k0_off4_inb v1 k0_hw1 j)).emb y)
          = T v1 k0_hw1 v4 (arg6.view.read (Elt F) X_arg6) (arg7.view.read (Elt F) X_arg7) j y := by
  induction k with
  | zero => exact ⟨hG, fun j hj => absurd hj (Nat.not_lt_zero _)⟩
  | succ k ih =>
    have hk' : k < (k0_t1_loop v1).trips := hk
    obtain ⟨ih1, ih2⟩ := ih hk'.le
    have hs := st_k0_t1_succ (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 G_arg11 G_arg12 init ⟨k, hk'⟩
    dsimp only at hs
    rw [trip1_T, trip1_M] at hs
    rw [hs]
    dsimp only
    constructor
    · refine (View.read_writes_full (s := S512x128) arg12.view G_arg12 (off := ![0, 0]) inb_S512x128_S512x128_0_0 _ _).trans ?_
      rw [Mx, dif_pos hk']
      congr 1
      exact (View.readAt_full (s := S512x128) arg12.view _ (off := ![0, 0]) inb_S512x128_S512x128_0_0).trans ih1
    · intro j hj y
      rcases Nat.lt_succ_iff_lt_or_eq.1 hj with hlt | heq
      · refine (View.read_writes_cons_unit_of_not_mem (s := S16x512x512) arg11.view G_arg11 (off := k0_off4 v1 ⟨k, hk'⟩) (off' := ![k, 0, 0]) _ _ _ _ (Hand.off4_eq v1 hv ⟨k, hk'⟩) 0 (.inl ?_)).trans (ih2 j hlt y)
        have h0 : (y 0).val = 0 := by have := (y 0).isLt; change (y 0).val < 1 at this; omega
        show k0_off4 v1 j 0 + 1 * (y 0).val < k
        rw [Hand.off4_eq v1 hv j, h0]; simpa using hlt
      · obtain rfl : j = ⟨k, hk'⟩ := Fin.ext heq
        exact View.read_writes_cons_emb arg11.view G_arg11 (Rect.unit (s := S16x512x512) (k0_off4 v1 ⟨k, hk'⟩) S1x512x512.size (k0_off4_inb v1 k0_hw1 ⟨k, hk'⟩)) (T v1 k0_hw1 v4 (arg6.view.read (Elt F) X_arg6) (arg7.view.read (Elt F) X_arg7) ⟨k, hk'⟩) _ y

/-- The second pass before chunk `k`: the running sum of the weights and the running product with the values. -/
theorem pass2 (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v3 : BitVec 32) (v23 : FVec F S512x128 .f32) (v30 : FVec F S512x128 .f32) (X_arg8 : BufTy.Contents (Elt F) arg8.view.ty) (X_arg11 : BufTy.Contents (Elt F) arg11.view.ty) (X_arg12 : BufTy.Contents (Elt F) arg12.view.ty) (G_arg13 G_arg14) (init : BitVec 32) (Tr : Fin (k0_t3_loop v1).trips → Vec F S1x512x512 .f32)
    (hT : ∀ k, arg11.view.readAt (Elt F) (Rect.unit (s := S16x512x512) (k0_off8 v1 k) S1x512x512.size (k0_off8_inb v1 k0_hw1 k)).toLoadRect X_arg11 = Tr k)
    (hL : arg13.view.read (Elt F) G_arg13 = k0_pay13 (F := F)) (hA : arg14.view.read (Elt F) G_arg14 = k0_pay14 (F := F)) (k : ℕ) (hk : k ≤ (k0_t3_loop v1).trips) :
    arg13.view.read (Elt F) (arg13.view.writes (Elt F) G_arg13 (st_k0_t3 (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 G_arg13 G_arg14 init k).2.1)
        = Lx v1 v23 (arg12.view.read (Elt F) X_arg12) Tr k
      ∧ arg14.view.read (Elt F) (arg14.view.writes (Elt F) G_arg14 (st_k0_t3 (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 G_arg13 G_arg14 init k).2.2)
        = Ax v1 k0_hw1 v23 (arg12.view.read (Elt F) X_arg12) Tr (arg8.view.read (Elt F) X_arg8) k := by
  induction k with
  | zero => exact ⟨hL, hA⟩
  | succ k ih =>
    have hk' : k < (k0_t3_loop v1).trips := hk
    obtain ⟨ih1, ih2⟩ := ih hk'.le
    have hs := st_k0_t3_succ (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 G_arg13 G_arg14 init ⟨k, hk'⟩
    dsimp only at hs
    rw [trip3_L, trip3_A, hT] at hs
    rw [hs]
    dsimp only
    have e12 := View.readAt_full (s := S512x128) arg12.view X_arg12 (off := ![0, 0]) inb_S512x128_S512x128_0_0
    constructor
    · refine (View.read_writes_full (s := S512x128) arg13.view G_arg13 (off := ![0, 0]) inb_S512x128_S512x128_0_0 _ _).trans ?_
      rw [Lx, dif_pos hk']
      congr 1
      exact (View.readAt_full (s := S512x128) arg13.view _ (off := ![0, 0]) inb_S512x128_S512x128_0_0).trans ih1
    · refine (View.read_writes_full (s := S512x256) arg14.view G_arg14 (off := ![0, 0]) inb_S512x256_S512x256_0_0 _ _).trans ?_
      rw [Ax, dif_pos hk']
      congr 1
      exact (View.readAt_full (s := S512x256) arg14.view _ (off := ![0, 0]) inb_S512x256_S512x256_0_0).trans ih2

theorem t2_zero (v1 : BitVec 32) : (k0_t2_loop v1).trips = 0 := by
  by_contra h
  exact Hand.t2_none v1 ⟨0, Nat.pos_of_ne_zero h⟩

theorem t4_zero (v1 : BitVec 32) : (k0_t4_loop v1).trips = 0 := by
  by_contra h
  exact Hand.t4_none v1 ⟨0, Nat.pos_of_ne_zero h⟩

theorem st2_none (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v4 : Vec F S1x1x512x256 .fp8e4m3) (X_arg6 : BufTy.Contents (Elt F) arg6.view.ty) (X_arg7 : BufTy.Contents (Elt F) arg7.view.ty) (G_arg11 G_arg12) (init : BitVec 32) (n : ℕ) (hn : n = 0) :
    st_k0_t2 (F := F) 𝒱 c bd i arg3 harg3 arg4 harg4 arg5 harg5 arg6 harg6 arg7 harg7 arg8 harg8 arg9 harg9 arg10 harg10 arg11 harg11 arg12 harg12 arg13 harg13 arg14 harg14 v1 k0_hw1 v4 X_arg6 X_arg7 G_arg11 G_arg12 init n = (init, [], []) := by
  subst hn; rfl

theorem st4_none (𝒱 : Variants) (c : Dev nD) (bd : Option 𝒱.V) (i : grid0.Coords) (arg3 : Memref sig .tc .smem S8 .i32) (harg3 : arg3.IsWhole) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole) (v1 : Elt F .i32) (k0_hw1 : k0_chk1 v1) (v3 : BitVec 32) (v23 : FVec F S512x128 .f32) (v30 : FVec F S512x128 .f32) (X_arg8 : BufTy.Contents (Elt F) arg8.view.ty) (X_arg11 : BufTy.Contents (Elt F) arg11.view.ty) (X_arg12 : BufTy.Contents (Elt F) arg12.view.ty) (G_arg13 G_arg14) (init : BitVec 32) (n : ℕ) (hn : n = 0) :
    st_k0_t4 (F := F) 𝒱 c bd i arg3 harg3 arg4 harg4 arg5 harg5 arg6 harg6 arg7 harg7 arg8 harg8 arg9 harg9 arg10 harg10 arg11 harg11 arg12 harg12 arg13 harg13 arg14 harg14 v1 k0_hw1 v3 v23 v30 X_arg8 X_arg11 X_arg12 G_arg13 G_arg14 init n = (init, [], []) := by
  subst hn; rfl

/-- The maximum less the shift, as the second pass reads it. -/
def Ms (v1 : Elt F .i32) (hw : k0_chk1 v1) (x0 : Vec F S1x1x512x256 .fp8e4m3) (x1 : Vec F S1x1x1x1x512 .f32) (x2 : Vec F S1x1x8192x256 .fp8e4m3) (x3 : Vec F S1x1x16x1x512 .f32) : FVec F S512x128 .f32 :=
  k0_pay12 (k0_pay11 x1 (Mx v1 hw x0 x2 x3 (k0_t1_loop v1).trips))

/-- What a grid point leaves in its output block, of the row's length and the point's input blocks. -/
def Blk (v1 : Elt F .i32) (hw : k0_chk1 v1) (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) : Vec F S1x1x512x256 .bf16 :=
  k0_pay1 (k0_pay22 (Lx v1 (k0_pay10 x1) (Ms v1 hw x0 x1 x2 x3) (T v1 hw x0 x2 x3) (k0_t3_loop v1).trips)
    (Ax v1 hw (k0_pay10 x1) (Ms v1 hw x0 x1 x2 x3) (T v1 hw x0 x2 x3) x4 (k0_t3_loop v1).trips) x5)

end Cert.AttendIdeal.Gen

end
-- ==== Proof.Row.lean ====
/- One row of the attention over the extended reals: the softmax taken against the row's maximum less a shift, in powers of two, is the
   reference's softmax times 256, and the quotients agree. -/
module

public import Idealize.ShloMosaic.PureOps.Ideal
public import Mathlib.Analysis.SpecialFunctions.Pow.Real
public import Mathlib.Data.EReal.Inv

@[expose] public section

noncomputable section

namespace Cert.Row

open Idealize.ShloMosaic

/-- The base-two factor `1 / ln 2`. -/
abbrev lam : ℝ := (Real.log 2)⁻¹

theorem lam_pos : 0 < lam := inv_pos.2 (Real.log_pos (by norm_num))

theorem div_coe (a b : ℝ) (hb : b ≠ 0) : Ideal.div (a : EReal) (b : EReal) = ((a * b⁻¹ : ℝ) : EReal) := by
  unfold Ideal.div
  rw [if_neg (by exact_mod_cast hb), EReal.coe_mul, EReal.coe_inv]

theorem bot_sub_coe (a : ℝ) : (⊥ : EReal) - (a : EReal) = ⊥ := by
  rw [sub_eq_add_neg, EReal.bot_add]

/-- A weight: a power of two against the shifted maximum is 256 times the exponential against the maximum. -/
theorem weight (r : ℝ) (hr : 0 < r) (u M : EReal) (h : u ≤ M) :
    Ideal.exp2 ((u - (M - Ideal.div ((8 : ℝ) : EReal) ((r : EReal) * (lam : EReal)))) * ((r : EReal) * (lam : EReal)))
      = Ideal.exp (u * r - M * r) * ((256 : ℝ) : EReal)
    ∧ ∃ x : ℝ, 0 ≤ x ∧ Ideal.exp (u * r - M * r) = (x : EReal) := by
  have hl := lam_pos
  have hc : 0 < r * lam := mul_pos hr hl
  have hl2 : Real.log 2 ≠ 0 := (Real.log_pos (by norm_num)).ne'
  rw [← EReal.coe_mul, div_coe _ _ hc.ne']
  have hbot : ∀ x : EReal, (⊥ : EReal) - x = ⊥ := fun x => by rw [sub_eq_add_neg, EReal.bot_add]
  have htop : ∀ x : EReal, x - (⊤ : EReal) = ⊥ := fun x => by rw [sub_eq_add_neg, EReal.neg_top, EReal.add_bot]
  have hb1 : (⊥ : EReal) * ((r * lam : ℝ) : EReal) = ⊥ := EReal.bot_mul_coe_of_pos hc
  have hb2 : (⊥ : EReal) * (r : EReal) = ⊥ := EReal.bot_mul_coe_of_pos hr
  have he2 : Ideal.exp2 ⊥ = 0 := rfl
  have he : Ideal.exp ⊥ = 0 := rfl
  induction M with
  | top =>
    rw [EReal.top_mul_coe_of_pos hr, EReal.top_sub_coe, htop, htop, hb1, he2, he, zero_mul]
    exact ⟨rfl, 0, le_rfl, rfl⟩
  | bot =>
    rw [le_bot_iff.1 h, hbot, hb1, hb2, hbot, he2, he, zero_mul]
    exact ⟨rfl, 0, le_rfl, rfl⟩
  | coe M =>
    induction u with
    | top => exact absurd h (not_le.2 (EReal.coe_lt_top M))
    | bot =>
      rw [hbot, hb1, hb2, hbot, he2, he, zero_mul]
      exact ⟨rfl, 0, le_rfl, rfl⟩
    | coe u =>
      rw [← EReal.coe_sub, ← EReal.coe_sub, ← EReal.coe_mul, ← EReal.coe_mul, ← EReal.coe_mul, ← EReal.coe_sub]
      refine ⟨?_, Real.exp (u * r - M * r), (Real.exp_pos _).le, rfl⟩
      show ((Real.rpow 2 _ : ℝ) : EReal) = ((Real.exp _ : ℝ) : EReal) * _
      rw [← EReal.coe_mul]
      congr 1
      show (2 : ℝ) ^ ((u - (M - 8 * (r * lam)⁻¹)) * (r * lam)) = Real.exp (u * r - M * r) * 256
      rw [Real.rpow_def_of_pos (by norm_num : (0:ℝ) < 2)]
      have e : Real.log 2 * ((u - (M - 8 * (r * lam)⁻¹)) * (r * lam)) = (u * r - M * r) + (8 : ℕ) * Real.log 2 := by
        unfold lam
        field_simp
        push_cast
        ring
      rw [e, Real.exp_add, Real.exp_nat_mul, Real.exp_log (by norm_num)]
      norm_num

variable (r : ℝ) (hr : 0 < r) (U : ℕ → EReal) (N : ℕ) (hN : N ≤ 8192) (hU : ∀ l, N ≤ l → U l = ⊥) (M M' : EReal)
  (hM : ∀ z, M ≤ z ↔ ∀ l < N, U l ≤ z) (hM' : ∀ z, M' ≤ z ↔ ∀ l < 8192, U l * (r : EReal) ≤ z)

include hU hM in
theorem le_max (l : ℕ) : U l ≤ M := by
  rcases Nat.lt_or_ge l N with h | h
  · exact (hM M).1 le_rfl l h
  · rw [hU l h]; exact bot_le

include hr hN hU hM hM' in
/-- The scaled scores' maximum is the scores' maximum scaled. -/
theorem max_eq : M' = M * (r : EReal) := by
  have hr0 : (0 : EReal) ≤ (r : EReal) := by exact_mod_cast hr.le
  have hi0 : (0 : EReal) ≤ ((r⁻¹ : ℝ) : EReal) := by exact_mod_cast (inv_pos.2 hr).le
  have e1 : (r : EReal) * ((r⁻¹ : ℝ) : EReal) = 1 := by rw [← EReal.coe_mul, mul_inv_cancel₀ hr.ne']; rfl
  have e2 : ((r⁻¹ : ℝ) : EReal) * (r : EReal) = 1 := by rw [mul_comm, e1]
  refine le_antisymm ((hM' _).2 fun l _ => mul_le_mul_of_nonneg_right (le_max U N hU M hM l) hr0) ?_
  have h : M ≤ M' * ((r⁻¹ : ℝ) : EReal) := (hM _).2 fun l hl => by
    have := mul_le_mul_of_nonneg_right ((hM' M').1 le_rfl l (lt_of_lt_of_le hl hN)) hi0
    rwa [mul_assoc, e1, mul_one] at this
  have := mul_le_mul_of_nonneg_right h hr0
  rwa [mul_assoc, e2, mul_one] at this

/-- A weight of the kernel. -/
abbrev kw (l : ℕ) : EReal :=
  Ideal.exp2 ((U l - (M - Ideal.div ((8 : ℝ) : EReal) ((r : EReal) * (lam : EReal)))) * ((r : EReal) * (lam : EReal)))

include hr hN hU hM hM' in
/-- The row's quotient of the kernel is the reference's. -/
theorem row_eq (V : ℕ → EReal) (v : EReal) :
    Ideal.div ((∑ l ∈ Finset.range N, min (kw r U M l) ((448 : ℝ) : EReal) * V l) * v) (∑ l ∈ Finset.range N, kw r U M l)
      = Ideal.div ((∑ l ∈ Finset.range 8192, min (Ideal.exp (U l * r - M') * ((256 : ℝ) : EReal)) ((448 : ℝ) : EReal) * V l) * ((256⁻¹ : ℝ) : EReal) * v)
          (∑ l ∈ Finset.range 8192, Ideal.exp (U l * r - M')) := by
  rw [max_eq r hr U N hN hU M M' hM hM']
  have hw := fun l => weight r hr (U l) M (le_max U N hU M hM l)
  have hp : ∀ l, kw r U M l = Ideal.exp (U l * r - M * r) * ((256 : ℝ) : EReal) := fun l => (hw l).1
  have hz : ∀ l, N ≤ l → Ideal.exp (U l * r - M * r) = 0 := fun l hl => by
    rw [hU l hl, EReal.bot_mul_coe_of_pos hr, sub_eq_add_neg, EReal.bot_add]; rfl
  simp only [hp]
  have s1 : ∑ l ∈ Finset.range N, Ideal.exp (U l * r - M * r) * ((256 : ℝ) : EReal)
      = ∑ l ∈ Finset.range 8192, Ideal.exp (U l * r - M * r) * ((256 : ℝ) : EReal) :=
    Finset.sum_subset (Finset.range_subset_range.2 hN) fun l _ hl => by
      rw [hz l (by simpa using hl), zero_mul]
  have s2 : ∑ l ∈ Finset.range N, min (Ideal.exp (U l * r - M * r) * ((256 : ℝ) : EReal)) ((448 : ℝ) : EReal) * V l
      = ∑ l ∈ Finset.range 8192, min (Ideal.exp (U l * r - M * r) * ((256 : ℝ) : EReal)) ((448 : ℝ) : EReal) * V l :=
    Finset.sum_subset (Finset.range_subset_range.2 hN) fun l _ hl => by
      rw [hz l (by simpa using hl), zero_mul, min_eq_left (by exact_mod_cast (by norm_num : (0:ℝ) ≤ 448)), zero_mul]
  rw [s1, s2]
  choose x hx0 hx using fun l => (hw l).2
  simp only [hx]
  have sx : ∑ l ∈ Finset.range 8192, (x l : EReal) = ((∑ l ∈ Finset.range 8192, x l : ℝ) : EReal) := (map_sum (⟨⟨Real.toEReal, rfl⟩, EReal.coe_add⟩ : ℝ →+ EReal) _ _).symm
  have sx2 : ∑ l ∈ Finset.range 8192, (x l : EReal) * ((256 : ℝ) : EReal) = ((256 * ∑ l ∈ Finset.range 8192, x l : ℝ) : EReal) := by
    have : ∀ l, (x l : EReal) * ((256 : ℝ) : EReal) = ((256 * x l : ℝ) : EReal) := fun l => by rw [← EReal.coe_mul, mul_comm]
    simp only [this]
    rw [Finset.mul_sum]
    exact (map_sum (⟨⟨Real.toEReal, rfl⟩, EReal.coe_add⟩ : ℝ →+ EReal) _ _).symm
  rw [sx, sx2]
  by_cases h0 : ∑ l ∈ Finset.range 8192, x l = 0
  · have hx' := (Finset.sum_eq_zero_iff_of_nonneg fun l _ => hx0 l).1 h0
    have hA : ∑ l ∈ Finset.range 8192, min ((x l : EReal) * ((256 : ℝ) : EReal)) ((448 : ℝ) : EReal) * V l = 0 :=
      Finset.sum_eq_zero fun l hl => by
        rw [hx' l hl, EReal.coe_zero, zero_mul, min_eq_left (by exact_mod_cast (by norm_num : (0:ℝ) ≤ 448)), zero_mul]
    generalize Finset.range 8192 = R at *
    simp only [hA, h0, mul_zero, zero_mul]
  · unfold Ideal.div
    rw [if_neg (by exact_mod_cast mul_ne_zero (by norm_num) h0), if_neg (by exact_mod_cast h0), ← EReal.coe_inv, ← EReal.coe_inv, mul_inv, EReal.coe_mul]
    generalize (∑ l ∈ Finset.range 8192, min ((x l : EReal) * ((256 : ℝ) : EReal)) ((448 : ℝ) : EReal) * V l) = A
    rw [mul_assoc, mul_left_comm v, ← mul_assoc, ← mul_assoc, mul_assoc A]

end Cert.Row

end
-- ==== Proof.AttendIdeal.Elem.lean ====
/- One grid point's block of the output, read element by element over the extended reals. -/
module

public import proofs.«01_k».proof.Proof.AttendIdeal.Block
public import proofs.«01_k».proof.Proof.Row
public import Idealize.ShloMosaic.Lib.Pipeline.Value
public import Idealize.ShloMosaic.Lib.ValueIdx
public import Idealize.ShloMosaic.Lib.MatmulPlain
public import Idealize.ShloMosaic.PureOps.Ideal.Laws

@[expose] public section

set_option maxRecDepth 16384

noncomputable section

namespace Cert.AttendIdeal.Gen

open Idealize.ShloMosaic Idealize.ShloMosaic.TcCoe Idealize.ShloMosaic.ValueIdx

/-- The literal written for the masked scores is the bottom element. -/
theorem ofBits_neg_inf : (FloatOps.ofBits (F := Ideal) .f32 0xFF800000#32) = (⊥ : EReal) := by
  show Ideal.ofBits .f32 0xFF800000#32 = _
  simp [Ideal.ofBits, Ideal.ieee]

/-- The literal zero is zero. -/
theorem ofBits_zero : (FloatOps.ofBits (F := Ideal) .f32 0x00000000#32) = (0 : EReal) := by
  show Ideal.ofBits .f32 0x00000000#32 = _
  simp [Ideal.ofBits, Ideal.ieee]

/-- A score over the query's scale: the product of the codes times the key's scale over 16, and bottom past the row's length. -/
def U (q : Fin 256 → EReal) (K : Fin 8192 → Fin 256 → EReal) (s : Fin 8192 → EReal) (len : BitVec 32) (l : ℕ) : EReal :=
  if h : l < 8192 then
    if (l : ℤ) < len.toInt then (∑ d, q d * K ⟨l, h⟩ d) * (s ⟨l, h⟩ * FloatOps.ofBits (F := Ideal) .f32 0x3D800000#32) else ⊥
  else ⊥

/-- Where the mask is set. -/
theorem mask_apply (v1 : BitVec 32) (hv : v1.toInt ≤ 8192) (k : ℕ) (hk : k < 16) (c : ℕ) (hc : c < 512) :
    IntOp.cmpi .slt (IntOp.addi (BitVec.ofNat 32 c) (Scalar.muli (Scf.iv 0#32 1#32 k) 512#32)) v1
      = if ((512 * k + c : ℕ) : ℤ) < v1.toInt then 1#1 else 0#1 := by
  have e : (IntOp.addi (BitVec.ofNat 32 c) (Scalar.muli (Scf.iv 0#32 1#32 k) 512#32)).toInt = ((512 * k + c : ℕ) : ℤ) := by
    show (BitVec.ofNat 32 c + Scalar.muli (Scf.iv 0#32 1#32 k) 512#32).toInt = _
    have h2 := Hand.toNat_iv512 k hk.le
    have h3 : (BitVec.ofNat 32 c + Scalar.muli (Scf.iv 0#32 1#32 k) 512#32).toNat = 512 * k + c := by
      rw [BitVec.toNat_add, h2, BitVec.toNat_ofNat]; omega
    rw [BitVec.toInt_eq_toNat_of_lt (by rw [h3]; omega), h3]
  show BitVec.ofBool (BitVec.slt _ v1) = _
  rw [BitVec.slt_eq_decide, e]
  by_cases h : ((512 * k + c : ℕ) : ℤ) < v1.toInt
  · rw [if_pos h, decide_eq_true h]; rfl
  · rw [if_neg h, decide_eq_false h]; rfl

/-- The scores of one chunk at an index. -/
theorem pay4_apply (v1 : Elt Ideal .i32) (hv : v1.toInt ≤ 8192) (q : Vec Ideal S1x1x512x256 .fp8e4m3) (k : Fin (k0_t1_loop v1).trips)
    (K : Vec Ideal S1x1x512x256 .fp8e4m3) (s : Vec Ideal S1x1x1x1x512 .f32) (r c : Fin 512) :
    k0_pay4 (F := Ideal) v1 q k K s (ix2 r c)
      = if ((512 * k.val + c.val : ℕ) : ℤ) < v1.toInt then
          (∑ d : Fin 256, (q (ix4 0 0 r d) : EReal) * K (ix4 0 0 c d)) * (s (ix5 0 0 0 0 c) * FloatOps.ofBits (F := Ideal) .f32 0x3D800000#32)
        else ⊥ := by
  unfold k0_pay4
  dsimp only
  rw [select_apply]
  have hm : cmpi .slt (addi (iota .tc S512x512 32 [1] iota_S512x512_d1_w32) (broadcast S512x512 (Scalar.muli (Scf.iv 0#32 1#32 k) 512#32))) (broadcast S512x512 v1) (ix2 r c)
      = if ((512 * k.val + c.val : ℕ) : ℤ) < v1.toInt then 1#1 else 0#1 := by
    refine Eq.trans ?_ (mask_apply v1 hv k.val (Hand.t1_lt v1 hv k) c.val c.isLt)
    show IntOp.cmpi .slt (IntOp.addi (iota .tc S512x512 32 [1] iota_S512x512_d1_w32 (ix2 r c)) (Scalar.muli (Scf.iv 0#32 1#32 k) 512#32)) v1 = _
    rw [iota_single_apply]
  rw [hm]
  split
  · rw [select_one, mulf_apply]
    congr 1
    · refine (Ideal.matmul_transposedRhs_apply (M := 512) (K := 256) (N := 512) (φ₁ := .fp8e4m3) (φ₂ := .fp8e4m3) none _ _ _ r c).trans ?_
      rw [show (constant (F := Ideal) S512x512 .f32 0x00000000#32 (ix2 r c) : EReal) = 0 from ofBits_zero, zero_add]
      refine Finset.sum_congr rfl fun d _ => ?_
      congr 1
      · exact shapeCast_apply _ _ _ (ix4 0 0 r d) (by rw [Shape.rowMajor_val_two, Shape.rowMajor_val_four]; simp)
      · exact shapeCast_apply _ _ _ (ix4 0 0 c d) (by rw [Shape.rowMajor_val_two, Shape.rowMajor_val_four]; simp)
    · refine (broadcastTo_apply _ _ _ (ix2 0 c) (fun a => match a with | ⟨0, _⟩ => rfl | ⟨1, _⟩ => rfl)).trans ?_
      rw [mulf_apply]
      congr 1
      exact shapeCast_apply _ _ _ (ix5 0 0 0 0 c) (by rw [Shape.rowMajor_val_two, Shape.rowMajor_val_five]; simp)
  · rw [select_zero]; exact ofBits_neg_inf

/-- The score of key `l` for row `r`. -/
abbrev Ur (x0 : Vec Ideal S1x1x512x256 .fp8e4m3) (x2 : Vec Ideal S1x1x8192x256 .fp8e4m3) (x3 : Vec Ideal S1x1x16x1x512 .f32) (v1 : BitVec 32) (r : Fin 512) : ℕ → EReal :=
  U (fun d => x0 (ix4 0 0 r d)) (fun l d => x2 (ix4 0 0 l d))
    (fun l => x3 (ix5 0 0 ⟨l.val / 512, by have := l.isLt; omega⟩ 0 ⟨l.val % 512, Nat.mod_lt _ (by decide)⟩)) v1

/-- The scores of a chunk as the run computes them. -/
theorem chunk_apply (v1 : Elt Ideal .i32) (hw : k0_chk1 v1) (hv : v1.toInt ≤ 8192) (x0 : Vec Ideal S1x1x512x256 .fp8e4m3) (x2 : Vec Ideal S1x1x8192x256 .fp8e4m3) (x3 : Vec Ideal S1x1x16x1x512 .f32)
    (k : Fin (k0_t1_loop v1).trips) (r c : Fin 512) :
    k0_pay4 (F := Ideal) v1 x0 k (View.ld x2 (Rect.unit (k0_off2 v1 k) S1x1x512x256.size (k0_off2_inb v1 hw k))) (View.ld x3 (Rect.unit (k0_off3 v1 k) S1x1x1x1x512.size (k0_off3_inb v1 hw k))) (ix2 r c)
      = Ur x0 x2 x3 v1 r (512 * k.val + c.val) := by
  have hk := Hand.t1_lt v1 hv k
  have hl : 512 * k.val + c.val < 8192 := by have := c.isLt; omega
  refine (pay4_apply v1 hv _ _ _ _ r c).trans ?_
  unfold Ur U
  rw [dif_pos hl]
  have o2 := Hand.off2_eq v1 hv k
  have o3 := Hand.off3_eq v1 hv k
  have e2 : ∀ d : Fin 256, (Rect.unit (s := S1x1x8192x256) (k0_off2 v1 k) S1x1x512x256.size (k0_off2_inb v1 hw k)).emb (ix4 (0 : Fin 1) (0 : Fin 1) c d) = (ix4 (0 : Fin 1) (0 : Fin 1) (⟨512 * k.val + c.val, hl⟩ : Fin 8192) d) := by
    intro d; funext a; apply Fin.ext
    refine (congrArg (· + 1 * (ix4 (0 : Fin 1) (0 : Fin 1) c d a).val) (congrFun o2 a)).trans ?_
    match a with
    | ⟨0, _⟩ => rfl
    | ⟨1, _⟩ => rfl
    | ⟨2, _⟩ => exact congrArg (512 * k.val + ·) (Nat.one_mul _)
    | ⟨3, _⟩ => exact (Nat.zero_add _).trans (Nat.one_mul _)
  have e3 : (Rect.unit (s := S1x1x16x1x512) (k0_off3 v1 k) S1x1x1x1x512.size (k0_off3_inb v1 hw k)).emb (ix5 (0 : Fin 1) (0 : Fin 1) (0 : Fin 1) (0 : Fin 1) c)
      = ix5 (0 : Fin 1) (0 : Fin 1) (⟨(512 * k.val + c.val) / 512, by omega⟩ : Fin 16) (0 : Fin 1) (⟨(512 * k.val + c.val) % 512, Nat.mod_lt _ (by decide)⟩ : Fin 512) := by
    funext a; apply Fin.ext
    refine (congrArg (· + 1 * (ix5 (0 : Fin 1) (0 : Fin 1) (0 : Fin 1) (0 : Fin 1) c a).val) (congrFun o3 a)).trans ?_
    have := c.isLt
    match a with
    | ⟨0, _⟩ => rfl
    | ⟨1, _⟩ => rfl
    | ⟨2, _⟩ => show k.val + 1 * 0 = (512 * k.val + c.val) / 512; omega
    | ⟨3, _⟩ => rfl
    | ⟨4, _⟩ => show 0 + 1 * c.val = (512 * k.val + c.val) % 512; omega
  split
  · congr 1
    · refine Finset.sum_congr rfl fun d _ => ?_
      congr 1
      exact congrArg x2 (e2 d)
    · congr 1
      exact congrArg x3 e3
  · rfl

/-- A slab of the stored scores at an index. -/
theorem T_apply (v1 : Elt Ideal .i32) (hw : k0_chk1 v1) (hv : v1.toInt ≤ 8192) (x0 : Vec Ideal S1x1x512x256 .fp8e4m3) (x2 : Vec Ideal S1x1x8192x256 .fp8e4m3) (x3 : Vec Ideal S1x1x16x1x512 .f32)
    (k : Fin (k0_t1_loop v1).trips) (r c : Fin 512) :
    T v1 hw x0 x2 x3 k (ix3 (0 : Fin 1) r c) = Ur x0 x2 x3 v1 r (512 * k.val + c.val) := by
  refine Eq.trans ?_ (chunk_apply v1 hw hv x0 x2 x3 k r c)
  unfold T k0_pay5
  exact shapeCast_apply _ _ _ (ix2 r c) (by rw [Shape.rowMajor_val_two, Shape.rowMajor_val_three]; simp)

/-- A column slice of a chunk. -/
theorem slice_apply (x : FVec Ideal S512x512 .f32) (o : ℕ) (h : S512x512.Slices ![0, o] S512x128) (r : Fin 512) (j : Fin 128) (hj : o + j.val < 512) :
    extractStridedSlice S512x128 ![0, o] x h (ix2 r j) = x (ix2 r ⟨o + j.val, hj⟩) :=
  extractStridedSlice_apply _ _ _ _ _ (fun a => match a with | ⟨0, _⟩ => (Nat.zero_add _).symm | ⟨1, _⟩ => rfl)

/-- The running maximum's lanes bound exactly the scores so far. -/
theorem Mx_le (v1 : Elt Ideal .i32) (hw : k0_chk1 v1) (hv : v1.toInt ≤ 8192) (x0 : Vec Ideal S1x1x512x256 .fp8e4m3) (x2 : Vec Ideal S1x1x8192x256 .fp8e4m3) (x3 : Vec Ideal S1x1x16x1x512 .f32)
    (r : Fin 512) (z : EReal) (n : ℕ) (hn : n ≤ (k0_t1_loop v1).trips) :
    (∀ j : Fin 128, (Mx v1 hw x0 x2 x3 n (ix2 r j) : EReal) ≤ z) ↔ ∀ l < 512 * n, Ur x0 x2 x3 v1 r l ≤ z := by
  induction n with
  | zero =>
    refine ⟨fun _ l hl => absurd hl (by omega), fun _ j => ?_⟩
    have : (Mx v1 hw x0 x2 x3 0 (ix2 r j) : EReal) = ⊥ := ofBits_neg_inf
    rw [this]; exact bot_le
  | succ n ih =>
    have hn' : n < (k0_t1_loop v1).trips := hn
    have ih := ih hn'.le
    have hs : ∀ j : Fin 128, (Mx v1 hw x0 x2 x3 (n + 1) (ix2 r j) : EReal)
        = max (max (max (max (Mx v1 hw x0 x2 x3 n (ix2 r j)) (Ur x0 x2 x3 v1 r (512 * n + (0 + j.val)))) (Ur x0 x2 x3 v1 r (512 * n + (128 + j.val)))) (Ur x0 x2 x3 v1 r (512 * n + (256 + j.val)))) (Ur x0 x2 x3 v1 r (512 * n + (384 + j.val))) := by
      intro j
      have hj := j.isLt
      rw [Mx, dif_pos hn']
      unfold k0_pay6
      dsimp only
      refine (shapeCast_apply _ _ _ (ix2 r j) rfl).trans ?_
      simp only [maximumf_apply]
      rw [slice_apply _ 0 _ r j (by omega), slice_apply _ 128 _ r j (by omega), slice_apply _ 256 _ r j (by omega), slice_apply _ 384 _ r j (by omega)]
      rw [chunk_apply v1 hw hv, chunk_apply v1 hw hv, chunk_apply v1 hw hv, chunk_apply v1 hw hv]
    constructor
    · intro h l hl
      have h' : ∀ j : Fin 128, _ := fun j => (hs j) ▸ h j
      simp only [max_le_iff] at h'
      by_cases hlt : l < 512 * n
      · exact ih.1 (fun j => (h' j).1.1.1.1) l hlt
      · have hm : (l - 512 * n) % 128 < 128 := Nat.mod_lt _ (by decide)
        have key := h' ⟨(l - 512 * n) % 128, hm⟩
        dsimp only at key
        have hd : (l - 512 * n) / 128 = 0 ∨ (l - 512 * n) / 128 = 1 ∨ (l - 512 * n) / 128 = 2 ∨ (l - 512 * n) / 128 = 3 := by omega
        rcases hd with hd | hd | hd | hd
        · rw [show l = 512 * n + (0 + (l - 512 * n) % 128) by omega]; exact key.1.1.1.2
        · rw [show l = 512 * n + (128 + (l - 512 * n) % 128) by omega]; exact key.1.1.2
        · rw [show l = 512 * n + (256 + (l - 512 * n) % 128) by omega]; exact key.1.2
        · rw [show l = 512 * n + (384 + (l - 512 * n) % 128) by omega]; exact key.2
    · intro h j
      have hj := j.isLt
      rw [hs j]
      simp only [max_le_iff]
      exact ⟨⟨⟨⟨ih.2 (fun l hl => h l (by omega)) j, h _ (by omega)⟩, h _ (by omega)⟩, h _ (by omega)⟩, h _ (by omega)⟩

/-- The concatenation of four copies at an index. -/
theorem cat_apply (x : FVec Ideal S512x128 .f32) (r c : Fin 512) :
    concatenate S512x512 1 [⟨S512x128, x⟩, ⟨S512x128, x⟩, ⟨S512x128, x⟩, ⟨S512x128, x⟩] concatenates_S512x128_S512x128_S512x128_S512x128_S512x512_d1 (ix2 r c)
      = x (ix2 r ⟨c.val % 128, Nat.mod_lt _ (by decide)⟩) :=
  concatenate_replicate_apply (t := S512x512) (s₁ := S512x128) 1 4 x concatenates_S512x128_S512x128_S512x128_S512x128_S512x512_d1 rfl (ix2 r c) _ rfl
    (fun b => match b with | ⟨0, _⟩ => fun _ => rfl | ⟨1, _⟩ => fun h => absurd rfl h)

/-- The weight of key `l`. -/
abbrev wt (u : ℕ → EReal) (m q : EReal) (l : ℕ) : EReal := Ideal.exp2 ((u l - m) * q)

/-- The weights of a chunk at an index. -/
theorem pay16_apply (v23 m : FVec Ideal S512x128 .f32) (t : Vec Ideal S1x512x512 .f32) (r c : Fin 512) (u : EReal) (m0 q0 : EReal)
    (hq : ∀ j : Fin 128, v23 (ix2 r j) = q0) (hm : ∀ j : Fin 128, m (ix2 r j) = m0) (ht : t (ix3 (0 : Fin 1) r c) = u) :
    k0_pay16 (F := Ideal) v23 m t (ix2 r c) = Ideal.exp2 ((u - m0) * q0) := by
  unfold k0_pay16 k0_pay15
  dsimp only
  show Ideal.exp2 _ = _
  rw [mulf_apply, subf_apply, cat_apply, cat_apply, hq, hm]
  rw [shapeCast_apply t _ (ix2 r c) (ix3 (0 : Fin 1) r c) (by rw [Shape.rowMajor_val_two, Shape.rowMajor_val_three]; simp), ht]

/-- A sum over one chunk, as four sums over lanes. -/
theorem chunk_sum (w : ℕ → EReal) (n : ℕ) :
    ∑ l ∈ Finset.range (512 * (n + 1)), w l
      = ∑ l ∈ Finset.range (512 * n), w l + ∑ j : Fin 128, w (512 * n + (0 + j.val)) + ∑ j : Fin 128, w (512 * n + (128 + j.val))
        + ∑ j : Fin 128, w (512 * n + (256 + j.val)) + ∑ j : Fin 128, w (512 * n + (384 + j.val)) := by
  rw [show 512 * (n + 1) = 512 * n + 128 + 128 + 128 + 128 by omega, Finset.sum_range_add, Finset.sum_range_add, Finset.sum_range_add, Finset.sum_range_add]
  simp only [Finset.sum_range, Nat.zero_add, Nat.add_assoc]
  simp only [← Nat.add_assoc]

/-- The running sum's lanes add up to the weights so far. -/
theorem Lx_sum (v1 : Elt Ideal .i32) (v23 m : FVec Ideal S512x128 .f32) (Tr : Fin (k0_t3_loop v1).trips → Vec Ideal S1x512x512 .f32)
    (r : Fin 512) (u : ℕ → EReal) (m0 q0 : EReal) (hq : ∀ j : Fin 128, v23 (ix2 r j) = q0) (hm : ∀ j : Fin 128, m (ix2 r j) = m0)
    (ht : ∀ k c, Tr k (ix3 (0 : Fin 1) r c) = u (512 * k.val + c.val)) (n : ℕ) (hn : n ≤ (k0_t3_loop v1).trips) :
    ∑ j : Fin 128, (Lx v1 v23 m Tr n (ix2 r j) : EReal) = ∑ l ∈ Finset.range (512 * n), wt u m0 q0 l := by
  induction n with
  | zero =>
    rw [Nat.mul_zero, Finset.sum_range_zero]
    exact Finset.sum_eq_zero fun j _ => ofBits_zero
  | succ n ih =>
    have hn' : n < (k0_t3_loop v1).trips := hn
    have hs : ∀ j : Fin 128, (Lx v1 v23 m Tr (n + 1) (ix2 r j) : EReal)
        = Lx v1 v23 m Tr n (ix2 r j) + wt u m0 q0 (512 * n + (0 + j.val)) + wt u m0 q0 (512 * n + (128 + j.val)) + wt u m0 q0 (512 * n + (256 + j.val)) + wt u m0 q0 (512 * n + (384 + j.val)) := by
      intro j
      have hj := j.isLt
      rw [Lx, dif_pos hn']
      unfold k0_pay17
      try dsimp only
      refine (shapeCast_apply _ _ _ (ix2 r j) rfl).trans ?_
      simp only [addf_apply]
      rw [slice_apply _ 0 _ r j (by omega), slice_apply _ 128 _ r j (by omega), slice_apply _ 256 _ r j (by omega), slice_apply _ 384 _ r j (by omega)]
      rw [pay16_apply v23 m _ r _ _ m0 q0 hq hm (ht ⟨n, hn'⟩ _), pay16_apply v23 m _ r _ _ m0 q0 hq hm (ht ⟨n, hn'⟩ _),
        pay16_apply v23 m _ r _ _ m0 q0 hq hm (ht ⟨n, hn'⟩ _), pay16_apply v23 m _ r _ _ m0 q0 hq hm (ht ⟨n, hn'⟩ _)]
    rw [Finset.sum_congr rfl fun j _ => hs j]
    simp only [Finset.sum_add_distrib]
    rw [ih hn'.le, chunk_sum]

/-- Where a chunk of the values lies. -/
theorem emb9 (v1 : Elt Ideal .i32) (hw : k0_chk1 v1) (hv : v1.toInt ≤ 8192) (k : Fin (k0_t3_loop v1).trips) (c : Fin 512) (d : Fin 256) (hl : 512 * k.val + c.val < 8192) :
    (Rect.unit (s := S1x1x8192x256) (k0_off9 v1 k) S1x1x512x256.size (k0_off9_inb v1 hw k)).emb (ix4 (0 : Fin 1) (0 : Fin 1) c d) = (ix4 (0 : Fin 1) (0 : Fin 1) (⟨512 * k.val + c.val, hl⟩ : Fin 8192) d) := by
  have o := Hand.off9_eq v1 hv k
  funext a; apply Fin.ext
  refine (congrArg (· + 1 * (ix4 (0 : Fin 1) (0 : Fin 1) c d a).val) (congrFun o a)).trans ?_
  match a with
  | ⟨0, _⟩ => rfl
  | ⟨1, _⟩ => rfl
  | ⟨2, _⟩ => exact congrArg (512 * k.val + ·) (Nat.one_mul _)
  | ⟨3, _⟩ => exact (Nat.zero_add _).trans (Nat.one_mul _)

/-- The running product at an index. -/
theorem Ax_sum (v1 : Elt Ideal .i32) (hw : k0_chk1 v1) (hv : v1.toInt ≤ 8192) (v23 m : FVec Ideal S512x128 .f32) (Tr : Fin (k0_t3_loop v1).trips → Vec Ideal S1x512x512 .f32)
    (Vv : Vec Ideal S1x1x8192x256 .fp8e4m3) (r : Fin 512) (d : Fin 256) (Vr : ℕ → EReal) (hV : ∀ l : Fin 8192, Vv (ix4 (0 : Fin 1) (0 : Fin 1) l d) = Vr l.val)
    (u : ℕ → EReal) (m0 q0 : EReal) (hq : ∀ j : Fin 128, v23 (ix2 r j) = q0) (hm : ∀ j : Fin 128, m (ix2 r j) = m0)
    (ht : ∀ k c, Tr k (ix3 (0 : Fin 1) r c) = u (512 * k.val + c.val)) (n : ℕ) (hn : n ≤ (k0_t3_loop v1).trips) :
    (Ax v1 hw v23 m Tr Vv n (ix2 r d) : EReal)
      = ∑ l ∈ Finset.range (512 * n), min (wt u m0 q0 l) (FloatOps.ofBits (F := Ideal) .f32 0x43E00000#32) * Vr l := by
  induction n with
  | zero =>
    rw [Nat.mul_zero, Finset.sum_range_zero]
    exact ofBits_zero
  | succ n ih =>
    have hn' : n < (k0_t3_loop v1).trips := hn
    have hk16 : n < 16 := Hand.t1_lt v1 hv ⟨n, hn'⟩
    rw [Ax, dif_pos hn']
    unfold k0_pay18
    dsimp only
    refine (shapeCast_apply _ _ _ (ix2 r d) rfl).trans ?_
    rw [addf_apply, ih hn'.le, show 512 * (n + 1) = 512 * n + 512 by omega, Finset.sum_range_add]
    congr 1
    rw [Finset.sum_range]
    refine (Ideal.matmul_plain_apply (M := 512) (K := 512) (N := 256) (φ₁ := .fp8e4m3) (φ₂ := .fp8e4m3) none _ _ _ r d).trans ?_
    rw [show (constant (F := Ideal) S512x256 .f32 0x00000000#32 (ix2 r d) : EReal) = 0 from ofBits_zero, zero_add]
    refine Finset.sum_congr rfl fun c _ => ?_
    have hc := c.isLt
    congr 1
    · rw [truncf_apply, minimumf_apply, pay16_apply v23 m _ r c _ m0 q0 hq hm (ht ⟨n, hn'⟩ c)]
      rfl
    · refine (shapeCast_apply _ _ _ (ix4 (0 : Fin 1) (0 : Fin 1) c d) (by rw [Shape.rowMajor_val_two, Shape.rowMajor_val_four]; simp)).trans ?_
      refine Eq.trans ?_ (hV ⟨512 * n + c.val, by omega⟩)
      refine congrArg Vv ?_
      exact emb9 v1 hw hv ⟨n, hn'⟩ c d (by show 512 * n + c.val < 8192; omega)

/-- The exponent's factor for row `r`. -/
theorem pay10_apply (x1 : Vec Ideal S1x1x1x1x512 .f32) (r : Fin 512) (j : Fin 128) :
    k0_pay10 (F := Ideal) x1 (ix2 r j) = (x1 (ix5 (0 : Fin 1) (0 : Fin 1) (0 : Fin 1) (0 : Fin 1) r) : EReal) * (Cert.Row.lam : EReal) := by
  unfold k0_pay10
  dsimp only
  rw [mulf_apply]
  congr 1
  · refine (transpose_apply _ _ _ _ (ix2 j r) (fun b => match b with | ⟨0, _⟩ => rfl | ⟨1, _⟩ => rfl)).trans ?_
    refine (broadcastTo_apply _ _ _ (ix2 0 r) (fun a => match a with | ⟨0, _⟩ => rfl | ⟨1, _⟩ => rfl)).trans ?_
    refine (shapeCast_apply _ _ _ (ix2 0 r) rfl).trans ?_
    exact shapeCast_apply _ _ _ (ix5 (0 : Fin 1) (0 : Fin 1) (0 : Fin 1) (0 : Fin 1) r) (by rw [Shape.rowMajor_val_two, Shape.rowMajor_val_five]; simp)

/-- The shifted maximum of row `r`: the bound it is, less 8 over the factor. -/
theorem pay11_apply (x1 : Vec Ideal S1x1x1x1x512 .f32) (m : FVec Ideal S512x128 .f32) (r : Fin 512) (j : Fin 128) :
    k0_pay11 (F := Ideal) x1 m (ix2 r j)
      = (Finset.univ : Finset (Fin 128)).fold max (⊥ : EReal) (fun j => m (ix2 r j))
        - Ideal.div (FloatOps.ofBits (F := Ideal) .f32 0x41000000#32) (k0_pay10 (F := Ideal) x1 (ix2 r j)) := by
  unfold k0_pay11
  dsimp only
  rw [subf_apply]
  refine congrArg₂ (fun a b : EReal => a - b) ?_ rfl
  refine (broadcastTo_apply _ _ _ (ix2 r (0 : Fin 1)) (fun a => match a with | ⟨0, _⟩ => rfl | ⟨1, _⟩ => rfl)).trans ?_
  refine (shapeCast_apply _ _ _ (ix1 r) (by rw [Shape.rowMajor_val_two, Shape.rowMajor_val_one]; simp)).trans ?_
  refine (Ideal.multiReduction_maximumf_single (s := S512x128) (t := S512) (a := 1) (φ := .f32) m _ _ _ _ (ix1 r)).trans ?_
  rw [ofBits_neg_inf]
  refine congrArg (fun f => (Finset.univ : Finset (Fin 128)).fold max (⊥ : EReal) f) ?_
  funext k
  refine congrArg m ?_
  funext a
  match a with
  | ⟨0, _⟩ => rfl
  | ⟨1, _⟩ => rfl

/-- The result from the running sum and product at an index. -/
theorem pay22_apply (L : Vec Ideal S512x128 .f32) (A : Vec Ideal S512x256 .f32) (x5 : Vec Ideal S1x1x1x256 .f32) (r : Fin 512) (d : Fin 256) :
    k0_pay1 (F := Ideal) (k0_pay22 (F := Ideal) L A x5) (ix4 (0 : Fin 1) (0 : Fin 1) r d)
      = Ideal.div ((A (ix2 r d) : EReal) * x5 (ix4 (0 : Fin 1) (0 : Fin 1) (0 : Fin 1) d)) (∑ j : Fin 128, (L (ix2 r j) : EReal)) := by
  unfold k0_pay1 k0_pay22
  dsimp only
  refine (shapeCast_apply _ _ _ (ix2 r d) (by rw [Shape.rowMajor_val_two, Shape.rowMajor_val_four]; simp)).trans ?_
  rw [truncf_apply, divf_apply, mulf_apply]
  congr 1
  · congr 1
    refine (broadcastTo_apply _ _ _ (ix2 (0 : Fin 1) d) (fun a => match a with | ⟨0, _⟩ => rfl | ⟨1, _⟩ => rfl)).trans ?_
    exact shapeCast_apply _ _ _ (ix4 (0 : Fin 1) (0 : Fin 1) (0 : Fin 1) d) (by rw [Shape.rowMajor_val_two, Shape.rowMajor_val_four]; simp)
  · refine (broadcastTo_apply _ _ _ (ix2 r (0 : Fin 1)) (fun a => match a with | ⟨0, _⟩ => rfl | ⟨1, _⟩ => rfl)).trans ?_
    refine (shapeCast_apply _ _ _ (ix1 r) (by rw [Shape.rowMajor_val_two, Shape.rowMajor_val_one]; simp)).trans ?_
    refine (Ideal.multiReduction_add_single (s := S512x128) (t := S512) (a := 1) (φ := .f32) L _ _ _ _ (ix1 r)).trans ?_
    refine Finset.sum_congr rfl fun k _ => ?_
    refine congrArg L ?_
    funext a
    match a with
    | ⟨0, _⟩ => rfl
    | ⟨1, _⟩ => rfl

/-- A block of the output at an index: the capped weights' product with the values, times the values' scale, over the sum of the weights. -/
theorem Blk_apply (v1 : Elt Ideal .i32) (hw : k0_chk1 v1) (hv : v1.toInt ≤ 8192) (x0 : Vec Ideal S1x1x512x256 .fp8e4m3) (x1 : Vec Ideal S1x1x1x1x512 .f32)
    (x2 : Vec Ideal S1x1x8192x256 .fp8e4m3) (x3 : Vec Ideal S1x1x16x1x512 .f32) (x4 : Vec Ideal S1x1x8192x256 .fp8e4m3) (x5 : Vec Ideal S1x1x1x256 .f32)
    (r : Fin 512) (d : Fin 256) (Vr : ℕ → EReal) (hV : ∀ l : Fin 8192, x4 (ix4 (0 : Fin 1) (0 : Fin 1) l d) = Vr l.val) :
    ∃ M : EReal, (∀ z, M ≤ z ↔ ∀ l < 512 * Hand.chunks v1, Ur x0 x2 x3 v1 r l ≤ z) ∧
      Blk v1 hw x0 x1 x2 x3 x4 x5 (ix4 (0 : Fin 1) (0 : Fin 1) r d)
        = Ideal.div ((∑ l ∈ Finset.range (512 * Hand.chunks v1),
              min (wt (Ur x0 x2 x3 v1 r) (M - Ideal.div (FloatOps.ofBits (F := Ideal) .f32 0x41000000#32) ((x1 (ix5 (0 : Fin 1) (0 : Fin 1) (0 : Fin 1) (0 : Fin 1) r) : EReal) * (Cert.Row.lam : EReal)))
                ((x1 (ix5 (0 : Fin 1) (0 : Fin 1) (0 : Fin 1) (0 : Fin 1) r) : EReal) * (Cert.Row.lam : EReal)) l) (FloatOps.ofBits (F := Ideal) .f32 0x43E00000#32) * Vr l)
              * x5 (ix4 (0 : Fin 1) (0 : Fin 1) (0 : Fin 1) d))
            (∑ l ∈ Finset.range (512 * Hand.chunks v1),
              wt (Ur x0 x2 x3 v1 r) (M - Ideal.div (FloatOps.ofBits (F := Ideal) .f32 0x41000000#32) ((x1 (ix5 (0 : Fin 1) (0 : Fin 1) (0 : Fin 1) (0 : Fin 1) r) : EReal) * (Cert.Row.lam : EReal)))
                ((x1 (ix5 (0 : Fin 1) (0 : Fin 1) (0 : Fin 1) (0 : Fin 1) r) : EReal) * (Cert.Row.lam : EReal)) l) := by
  refine ⟨(Finset.univ : Finset (Fin 128)).fold max (⊥ : EReal) (fun j => Mx v1 hw x0 x2 x3 (k0_t1_loop v1).trips (ix2 r j)), ?_, ?_⟩
  · intro z
    rw [Finset.fold_max_le]
    rw [← Hand.t1_trips v1 hv]
    rw [← Mx_le v1 hw hv x0 x2 x3 r z _ le_rfl]
    simp
  · unfold Blk
    rw [pay22_apply]
    have hq : ∀ j : Fin 128, _ := fun j => pay10_apply x1 r j
    have hm : ∀ j : Fin 128, Ms v1 hw x0 x1 x2 x3 (ix2 r j) = (Finset.univ : Finset (Fin 128)).fold max (⊥ : EReal) (fun j => Mx v1 hw x0 x2 x3 (k0_t1_loop v1).trips (ix2 r j))
        - Ideal.div (FloatOps.ofBits (F := Ideal) .f32 0x41000000#32) ((x1 (ix5 (0 : Fin 1) (0 : Fin 1) (0 : Fin 1) (0 : Fin 1) r) : EReal) * (Cert.Row.lam : EReal)) := fun j => by
      unfold Ms k0_pay12
      refine (shapeCast_apply _ _ _ (ix2 r j) rfl).trans ?_
      exact (pay11_apply x1 _ r j).trans (by rw [pay10_apply])
    rw [Lx_sum v1 _ _ _ r (Ur x0 x2 x3 v1 r) _ _ hq hm (fun k c => T_apply v1 hw hv x0 x2 x3 k r c) _ le_rfl]
    rw [Ax_sum v1 hw hv _ _ _ x4 r d Vr hV (Ur x0 x2 x3 v1 r) _ _ hq hm (fun k c => T_apply v1 hw hv x0 x2 x3 k r c) _ le_rfl]
    rw [Hand.t3_trips v1 hv]

end Cert.AttendIdeal.Gen
-- ==== Proof.RefElem.lean ====
/- The reference read element by element over the extended reals. -/
module

public import proofs.«01_k».proof.Proof.AttendIdeal.Elem
public import proofs.«01_k».proof.Proof.Gen.ReferenceIdeal.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Cert.AttendIdeal.Gen (U ofBits_neg_inf ofBits_zero)

/-- The first batched product at an index. -/
theorem dot1_apply (x y : FVec Ideal S8x8x8192x256 .fp8e4m3) (b h : Fin 8) (p l : Fin 8192) :
    matmul (F := Ideal) dot_S8x8x8192x256_S8x8x8192x256_S8x8x8192x8192_3_3_2_2_01_01 none x y (constant S8x8x8192x8192 .f32 0x00000000#32) (ix4 b h p l)
      = ∑ d : Fin 256, (x (ix4 b h p d) : EReal) * y (ix4 b h l d) := by
  have hr : (dot_S8x8x8192x256_S8x8x8192x256_S8x8x8192x8192_3_3_2_2_01_01).contr.rank = 1 := rfl
  have hs : (dot_S8x8x8192x256_S8x8x8192x256_S8x8x8192x8192_3_3_2_2_01_01).contr.size ⟨0, by omega⟩ = 256 := rfl
  simp only [matmul]
  refine (Ideal.matmul_constant_zero_apply _ none x y (ix4 b h p l)).trans ?_
  rw [← Equiv.sum_comp (contrEquiv1 (dot_S8x8x8192x256_S8x8x8192x256_S8x8x8192x8192_3_3_2_2_01_01) 256 hr hs).symm]
  refine Finset.sum_congr rfl fun k _ => ?_
  have hk := contrEquiv1_symm_val _ 256 hr hs k
  congr 1
  · refine congrArg x ?_
    funext a; apply Fin.ext
    match a with
    | ⟨0, _⟩ => rfl
    | ⟨1, _⟩ => rfl
    | ⟨2, _⟩ => rfl
    | ⟨3, _⟩ => exact hk
  · refine congrArg y ?_
    funext a; apply Fin.ext
    match a with
    | ⟨0, _⟩ => rfl
    | ⟨1, _⟩ => rfl
    | ⟨2, _⟩ => rfl
    | ⟨3, _⟩ => exact hk

/-- The second batched product at an index. -/
theorem dot2_apply (x : FVec Ideal S8x8x8192x8192 .fp8e4m3) (y : FVec Ideal S8x8x8192x256 .fp8e4m3) (b h : Fin 8) (p : Fin 8192) (d : Fin 256) :
    matmul (F := Ideal) dot_S8x8x8192x8192_S8x8x8192x256_S8x8x8192x256_3_2_2_3_01_01 none x y (constant S8x8x8192x256 .f32 0x00000000#32) (ix4 b h p d)
      = ∑ l : Fin 8192, (x (ix4 b h p l) : EReal) * y (ix4 b h l d) := by
  have hr : (dot_S8x8x8192x8192_S8x8x8192x256_S8x8x8192x256_3_2_2_3_01_01).contr.rank = 1 := rfl
  have hs : (dot_S8x8x8192x8192_S8x8x8192x256_S8x8x8192x256_3_2_2_3_01_01).contr.size ⟨0, by omega⟩ = 8192 := rfl
  simp only [matmul]
  refine (Ideal.matmul_constant_zero_apply _ none x y (ix4 b h p d)).trans ?_
  rw [← Equiv.sum_comp (contrEquiv1 (dot_S8x8x8192x8192_S8x8x8192x256_S8x8x8192x256_3_2_2_3_01_01) 8192 hr hs).symm]
  refine Finset.sum_congr rfl fun k _ => ?_
  have hk := contrEquiv1_symm_val _ 8192 hr hs k
  congr 1
  · refine congrArg x ?_
    funext a; apply Fin.ext
    match a with
    | ⟨0, _⟩ => rfl
    | ⟨1, _⟩ => rfl
    | ⟨2, _⟩ => rfl
    | ⟨3, _⟩ => exact hk
  · refine congrArg y ?_
    funext a; apply Fin.ext
    match a with
    | ⟨0, _⟩ => rfl
    | ⟨1, _⟩ => rfl
    | ⟨2, _⟩ => exact hk
    | ⟨3, _⟩ => rfl

/-- Where in its 16 rows of 512 a position's scale lies. -/
abbrev at16 (b h : Fin 8) (p : Fin 8192) : S8x8x16x1x512.Idx :=
  ix5 b h (⟨p.val / 512, by have := p.isLt; omega⟩ : Fin 16) (0 : Fin 1) (⟨p.val % 512, Nat.mod_lt _ (by decide)⟩ : Fin 512)

/-- The reference's score over the query's scale. -/
abbrev Ug (a0 a2 : Vec Ideal S8x8x8192x256 .fp8e4m3) (a3 : Vec Ideal S8x8x16x1x512 .f32) (a6 : Vec Ideal S8 .i32) (b h : Fin 8) (p : Fin 8192) : ℕ → EReal :=
  U (fun d => a0 (ix4 b h p d)) (fun l d => a2 (ix4 b h l d)) (fun l => a3 (at16 b h l)) (a6 (ix1 b))

/-- The scores of the reference at an index. -/
def scores (v1 : Vec Ideal S8 .i32) (v5 v7 : Vec Ideal S8x8x16x1x512 .f32) (v12 v13 : Vec Ideal S8x8x8192x256 .fp8e4m3) : FVec Ideal S8x8x8192x8192 .f32 :=
  select (broadcastTo S8x8x8192x8192 (shapeCast S8x1x1x8192 (cmpi .slt (iota .tc S8x1x1x8192 32 [3] iota_S8x1x1x8192_d3_w32) (broadcastTo S8x1x1x8192 (shapeCast S8x1x1x1 v1 shapeCasts_S8_S8x1x1x1) broadcasts_S8x1x1x1_S8x1x1x8192)) shapeCasts_S8x1x1x8192_S8x1x1x8192) broadcasts_S8x1x1x8192_S8x8x8192x8192)
    (mulf (mulf (matmul (F := Ideal) (φ₁ := .fp8e4m3) (φ₂ := .fp8e4m3) dot_S8x8x8192x256_S8x8x8192x256_S8x8x8192x8192_3_3_2_2_01_01 none v12 v13 (constant S8x8x8192x8192 .f32 0x00000000#32))
        (broadcastTo S8x8x8192x8192 (shapeCast S8x8x8192x1 v5 shapeCasts_S8x8x16x1x512_S8x8x8192x1) broadcasts_S8x8x8192x1_S8x8x8192x8192))
      (broadcastTo S8x8x8192x8192 (mulf (shapeCast S8x8x1x8192 v7 shapeCasts_S8x8x16x1x512_S8x8x1x8192) (broadcast S8x8x1x8192 (Scalar.ofBits (F := Ideal) .f32 0x3D800000#32))) broadcasts_S8x8x1x8192_S8x8x8192x8192))
    (broadcast S8x8x8192x8192 (Scalar.ofBits (F := Ideal) .f32 0xFF800000#32))

theorem scores_apply (v1 : Vec Ideal S8 .i32) (v5 v7 : Vec Ideal S8x8x16x1x512 .f32) (v12 v13 : Vec Ideal S8x8x8192x256 .fp8e4m3) (b h : Fin 8) (p l : Fin 8192)
    (hq : (0 : EReal) < v5 (at16 b h p)) :
    scores v1 v5 v7 v12 v13 (ix4 b h p l) = Ug v12 v13 v7 v1 b h p l.val * (v5 (at16 b h p) : EReal) := by
  unfold scores
  rw [select_apply]
  have hm : broadcastTo S8x8x8192x8192 (shapeCast S8x1x1x8192 (cmpi .slt (iota .tc S8x1x1x8192 32 [3] iota_S8x1x1x8192_d3_w32) (broadcastTo S8x1x1x8192 (shapeCast S8x1x1x1 v1 shapeCasts_S8_S8x1x1x1) broadcasts_S8x1x1x1_S8x1x1x8192)) shapeCasts_S8x1x1x8192_S8x1x1x8192) broadcasts_S8x1x1x8192_S8x8x8192x8192 (ix4 b h p l)
      = if (l.val : ℤ) < (v1 (ix1 b) : BitVec 32).toInt then 1#1 else 0#1 := by
    refine (broadcastTo_apply _ _ _ (ix4 b (0 : Fin 1) (0 : Fin 1) l) (fun a => match a with | ⟨0, _⟩ => rfl | ⟨1, _⟩ => rfl | ⟨2, _⟩ => rfl | ⟨3, _⟩ => rfl)).trans ?_
    refine (shapeCast_apply _ _ _ (ix4 b (0 : Fin 1) (0 : Fin 1) l) rfl).trans ?_
    show IntOp.cmpi .slt (iota .tc S8x1x1x8192 32 [3] iota_S8x1x1x8192_d3_w32 (ix4 b (0 : Fin 1) (0 : Fin 1) l)) (broadcastTo S8x1x1x8192 (shapeCast S8x1x1x1 v1 shapeCasts_S8_S8x1x1x1) broadcasts_S8x1x1x1_S8x1x1x8192 (ix4 b (0 : Fin 1) (0 : Fin 1) l)) = _
    rw [iota_single_apply, broadcastTo_apply _ broadcasts_S8x1x1x1_S8x1x1x8192 _ (ix4 b (0 : Fin 1) (0 : Fin 1) (0 : Fin 1)) (fun a => match a with | ⟨0, _⟩ => rfl | ⟨1, _⟩ => rfl | ⟨2, _⟩ => rfl | ⟨3, _⟩ => rfl)]
    rw [shapeCast_apply v1 shapeCasts_S8_S8x1x1x1 _ (ix1 b) (by rw [Shape.rowMajor_val_one, Shape.rowMajor_val_four]; simp)]
    show BitVec.ofBool (BitVec.slt (BitVec.ofNat 32 l.val) (v1 (ix1 b))) = _
    have hl := l.isLt
    rw [BitVec.slt_eq_decide]
    have e : (BitVec.ofNat 32 l.val).toInt = (l.val : ℤ) := by
      have h3 : (BitVec.ofNat 32 l.val).toNat = l.val := by rw [BitVec.toNat_ofNat]; omega
      rw [BitVec.toInt_eq_toNat_of_lt (by rw [h3]; omega), h3]
    rw [e]
    by_cases h : (l.val : ℤ) < (v1 (ix1 b) : BitVec 32).toInt
    · rw [if_pos h, decide_eq_true h]; rfl
    · rw [if_neg h, decide_eq_false h]; rfl
  rw [hm]
  unfold Ug U
  rw [dif_pos l.isLt]
  split
  · rw [select_one, mulf_apply, mulf_apply, dot1_apply]
    rw [broadcastTo_apply _ broadcasts_S8x8x8192x1_S8x8x8192x8192 _ (ix4 b h p (0 : Fin 1)) (fun a => match a with | ⟨0, _⟩ => rfl | ⟨1, _⟩ => rfl | ⟨2, _⟩ => rfl | ⟨3, _⟩ => rfl)]
    rw [broadcastTo_apply _ broadcasts_S8x8x1x8192_S8x8x8192x8192 _ (ix4 b h (0 : Fin 1) l) (fun a => match a with | ⟨0, _⟩ => rfl | ⟨1, _⟩ => rfl | ⟨2, _⟩ => rfl | ⟨3, _⟩ => rfl)]
    rw [mulf_apply]
    rw [shapeCast_apply v5 shapeCasts_S8x8x16x1x512_S8x8x8192x1 _ (at16 b h p) (by
      rw [Shape.rowMajor_val_five, Shape.rowMajor_val_four]
      show ((((b.val * 8 + h.val) * 16 + p.val / 512) * 1 + 0) * 512 + p.val % 512) = ((b.val * 8 + h.val) * 8192 + p.val) * 1 + 0
      omega)]
    rw [shapeCast_apply v7 shapeCasts_S8x8x16x1x512_S8x8x1x8192 _ (at16 b h l) (by
      rw [Shape.rowMajor_val_five, Shape.rowMajor_val_four]
      show ((((b.val * 8 + h.val) * 16 + l.val / 512) * 1 + 0) * 512 + l.val % 512) = ((b.val * 8 + h.val) * 1 + 0) * 8192 + l.val
      omega)]
    exact mul_right_comm _ _ _
  · rw [select_zero]
    refine Eq.trans ofBits_neg_inf ?_
    exact (EReal.bot_mul_of_pos hq).symm

/-- The row's greatest score. -/
abbrev Mg (v1 : Vec Ideal S8 .i32) (v5 v7 : Vec Ideal S8x8x16x1x512 .f32) (v12 v13 : Vec Ideal S8x8x8192x256 .fp8e4m3) (b h : Fin 8) (p : Fin 8192) : EReal :=
  (Finset.univ : Finset (Fin 8192)).fold max (⊥ : EReal) (fun l => Ug v12 v13 v7 v1 b h p l.val * (v5 (at16 b h p) : EReal))

/-- The reference's weights at an index. -/
theorem pay2_apply (v1 : Vec Ideal S8 .i32) (v5 v7 : Vec Ideal S8x8x16x1x512 .f32) (v12 v13 : Vec Ideal S8x8x8192x256 .fp8e4m3) (b h : Fin 8) (p l : Fin 8192)
    (hq : (0 : EReal) < v5 (at16 b h p)) :
    k0_pay2 (F := Ideal) v1 v5 v7 v12 v13 (ix4 b h p l)
      = Ideal.exp (Ug v12 v13 v7 v1 b h p l.val * (v5 (at16 b h p) : EReal) - Mg v1 v5 v7 v12 v13 b h p) := by
  have e : k0_pay2 (F := Ideal) v1 v5 v7 v12 v13 = exp (subf (scores v1 v5 v7 v12 v13)
      (broadcastTo S8x8x8192x8192 (shapeCast S8x8x8192x1 (multiReduction .maximumf [3] S8x8x8192 (scores v1 v5 v7 v12 v13) 0xFF800000#32 reduces_S8x8x8192x8192_S8x8x8192 (.inl rfl) rfl) shapeCasts_S8x8x8192_S8x8x8192x1) broadcasts_S8x8x8192x1_S8x8x8192x8192)) := rfl
  rw [e]
  show Ideal.exp _ = _
  rw [subf_apply, scores_apply v1 v5 v7 v12 v13 b h p l hq]
  suffices hb : broadcastTo S8x8x8192x8192 (shapeCast S8x8x8192x1 (multiReduction .maximumf [3] S8x8x8192 (scores v1 v5 v7 v12 v13) 0xFF800000#32 reduces_S8x8x8192x8192_S8x8x8192 (.inl rfl) rfl) shapeCasts_S8x8x8192_S8x8x8192x1) broadcasts_S8x8x8192x1_S8x8x8192x8192 (ix4 b h p l) = Mg v1 v5 v7 v12 v13 b h p by
    rw [hb]
  refine (broadcastTo_apply _ _ _ (ix4 b h p (0 : Fin 1)) (fun a => match a with | ⟨0, _⟩ => rfl | ⟨1, _⟩ => rfl | ⟨2, _⟩ => rfl | ⟨3, _⟩ => rfl)).trans ?_
  refine (shapeCast_apply _ _ _ (ix3 b h p) (by
    rw [Shape.rowMajor_val_three, Shape.rowMajor_val_four]
    show (b.val * 8 + h.val) * 8192 + p.val = ((b.val * 8 + h.val) * 8192 + p.val) * 1 + 0
    omega)).trans ?_
  refine (Ideal.multiReduction_maximumf_single (s := S8x8x8192x8192) (t := S8x8x8192) (a := 3) (φ := .f32) _ _ _ _ _ (ix3 b h p)).trans ?_
  rw [ofBits_neg_inf]
  refine congrArg (fun f => (Finset.univ : Finset (Fin 8192)).fold max (⊥ : EReal) f) ?_
  funext k
  refine Eq.trans ?_ (scores_apply v1 v5 v7 v12 v13 b h p k hq)
  refine congrArg (scores v1 v5 v7 v12 v13) ?_
  funext a
  match a with
  | ⟨0, _⟩ => rfl
  | ⟨1, _⟩ => rfl
  | ⟨2, _⟩ => rfl
  | ⟨3, _⟩ => rfl

/-- The sum of the reference's weights at an index. -/
theorem pay3_apply (v1 : Vec Ideal S8 .i32) (v5 v7 : Vec Ideal S8x8x16x1x512 .f32) (v12 v13 : Vec Ideal S8x8x8192x256 .fp8e4m3) (b h : Fin 8) (p : Fin 8192)
    (hq : (0 : EReal) < v5 (at16 b h p)) :
    k0_pay3 (F := Ideal) v1 v5 v7 v12 v13 (ix4 b h p (0 : Fin 1))
      = ∑ l : Fin 8192, Ideal.exp (Ug v12 v13 v7 v1 b h p l.val * (v5 (at16 b h p) : EReal) - Mg v1 v5 v7 v12 v13 b h p) := by
  unfold k0_pay3
  refine (shapeCast_apply _ _ _ (ix3 b h p) (by
    rw [Shape.rowMajor_val_three, Shape.rowMajor_val_four]
    show (b.val * 8 + h.val) * 8192 + p.val = ((b.val * 8 + h.val) * 8192 + p.val) * 1 + 0
    omega)).trans ?_
  refine (Ideal.multiReduction_add_single (s := S8x8x8192x8192) (t := S8x8x8192) (a := 3) (φ := .f32) _ _ _ _ _ (ix3 b h p)).trans ?_
  refine Finset.sum_congr rfl fun k _ => ?_
  refine Eq.trans ?_ (pay2_apply v1 v5 v7 v12 v13 b h p k hq)
  refine congrArg (k0_pay2 (F := Ideal) v1 v5 v7 v12 v13) ?_
  funext a
  match a with
  | ⟨0, _⟩ => rfl
  | ⟨1, _⟩ => rfl
  | ⟨2, _⟩ => rfl
  | ⟨3, _⟩ => rfl

/-- The reference's result at an index. -/
theorem G7_apply (a0 : Vec Ideal S8x8x8192x256 .fp8e4m3) (a1 : Vec Ideal S8x8x16x1x512 .f32) (a2 : Vec Ideal S8x8x8192x256 .fp8e4m3) (a3 : Vec Ideal S8x8x16x1x512 .f32) (a4 : Vec Ideal S8x8x8192x256 .fp8e4m3) (a5 : Vec Ideal S8x8x1x256 .f32) (a6 : Vec Ideal S8 .i32)
    (b h : Fin 8) (p : Fin 8192) (d : Fin 256) (hq : (0 : EReal) < a1 (at16 b h p)) :
    Value.G7 (F := Ideal) a0 a1 a2 a3 a4 a5 a6 (ix4 b h p d)
      = Ideal.div ((∑ l : Fin 8192, min (Ideal.exp (Ug a0 a2 a3 a6 b h p l.val * (a1 (at16 b h p) : EReal) - Mg a6 a1 a3 a0 a2 b h p) * FloatOps.ofBits (F := Ideal) .f32 0x43800000#32) (FloatOps.ofBits (F := Ideal) .f32 0x43E00000#32) * (a4 (ix4 b h l d) : EReal))
            * FloatOps.ofBits (F := Ideal) .f32 0x3B800000#32 * (a5 (ix4 b h (0 : Fin 1) d) : EReal))
          (∑ l : Fin 8192, Ideal.exp (Ug a0 a2 a3 a6 b h p l.val * (a1 (at16 b h p) : EReal) - Mg a6 a1 a3 a0 a2 b h p)) := by
  unfold Value.G7 k0_pay1
  try dsimp only
  rw [truncf_apply, divf_apply, mulf_apply, mulf_apply, dot2_apply]
  rw [broadcastTo_apply _ broadcasts_S8x8x1x256_S8x8x8192x256 _ (ix4 b h (0 : Fin 1) d) (fun a => match a with | ⟨0, _⟩ => rfl | ⟨1, _⟩ => rfl | ⟨2, _⟩ => rfl | ⟨3, _⟩ => rfl)]
  rw [broadcastTo_apply _ broadcasts_S8x8x8192x1_S8x8x8192x256 _ (ix4 b h p (0 : Fin 1)) (fun a => match a with | ⟨0, _⟩ => rfl | ⟨1, _⟩ => rfl | ⟨2, _⟩ => rfl | ⟨3, _⟩ => rfl)]
  rw [pay3_apply a6 a1 a3 a0 a2 b h p hq]
  refine congrArg (fun z : EReal => Ideal.div (z * _ * _) _) ?_
  refine Finset.sum_congr rfl fun l _ => ?_
  rw [truncf_apply, minimumf_apply, mulf_apply, pay2_apply a6 a1 a3 a0 a2 b h p l hq]
  rfl

end Cert.ReferenceIdeal.Hand
-- ==== Proof.AttendIdeal.Tile.lean ====
/- One tile of the idealised kernel against the reference: row by row, the same value. -/
module

public import proofs.«01_k».proof.Proof.RefElem
public import Mathlib.Tactic.Linarith
public import Mathlib.Tactic.NormNum

@[expose] public section

set_option maxRecDepth 16384

noncomputable section

namespace Cert.AttendIdeal.Gen

open Idealize.ShloMosaic Idealize.ShloMosaic.ValueIdx Finset
open Cert.ReferenceIdeal.Hand (at16 Ug Mg G7_apply)

theorem lit8 : FloatOps.ofBits (F := Ideal) .f32 0x41000000#32 = ((8 : ℝ) : EReal) := by
  show Ideal.ofBits .f32 0x41000000#32 = _
  simp [Ideal.ofBits, Ideal.ieee]; norm_num; rw [← EReal.coe_mul]; norm_num

theorem lit448 : FloatOps.ofBits (F := Ideal) .f32 0x43E00000#32 = ((448 : ℝ) : EReal) := by
  show Ideal.ofBits .f32 0x43E00000#32 = _
  simp [Ideal.ofBits, Ideal.ieee]; norm_num; rw [← EReal.coe_mul]; norm_num

theorem lit256 : FloatOps.ofBits (F := Ideal) .f32 0x43800000#32 = ((256 : ℝ) : EReal) := by
  show Ideal.ofBits .f32 0x43800000#32 = _
  simp [Ideal.ofBits, Ideal.ieee]; norm_num; rw [← EReal.coe_mul]; norm_num

theorem lit256inv : FloatOps.ofBits (F := Ideal) .f32 0x3B800000#32 = ((256⁻¹ : ℝ) : EReal) := by
  show Ideal.ofBits .f32 0x3B800000#32 = _
  simp [Ideal.ofBits, Ideal.ieee]; norm_num; rw [← EReal.coe_mul]; norm_num

/-- A sequence's live keys lie below its last chunk's end. -/
theorem len_le_chunks (v : BitVec 32) (l : ℕ) (h : 512 * Hand.chunks v ≤ l) : ¬ ((l : ℤ) < v.toInt) := by
  intro hl
  unfold Hand.chunks at h
  have := Hand.tdiv_bounds (v.toInt + 511)
  rw [Int.tdiv_eq_ediv_of_nonneg (by omega)] at h
  omega

/-- Every score at or past the end of the last chunk is masked. -/
theorem U_past (q : Fin 256 → EReal) (K : Fin 8192 → Fin 256 → EReal) (s : Fin 8192 → EReal) (v : BitVec 32) (l : ℕ)
    (h : 512 * Hand.chunks v ≤ l) : U q K s v l = ⊥ := by
  unfold U
  split
  · rw [if_neg (len_le_chunks v l h)]
  · rfl

/-- A row of one query tile, computed by the kernel from the blocks of seven arrays, is the same row of the reference's
    result on those arrays. -/
theorem tile_eq (a0 : Vec Ideal S8x8x8192x256 .fp8e4m3) (a1 : Vec Ideal S8x8x16x1x512 .f32) (a2 : Vec Ideal S8x8x8192x256 .fp8e4m3)
    (a3 : Vec Ideal S8x8x16x1x512 .f32) (a4 : Vec Ideal S8x8x8192x256 .fp8e4m3) (a5 : Vec Ideal S8x8x1x256 .f32) (a6 : Vec Ideal S8 .i32)
    (b h : Fin 8) (r : Fin 512) (p : Fin 8192) (d : Fin 256)
    (v1 : BitVec 32) (hw : k0_chk1 v1) (hv : v1.toInt ≤ 8192)
    (x0 : Vec Ideal S1x1x512x256 .fp8e4m3) (x1 : Vec Ideal S1x1x1x1x512 .f32) (x2 : Vec Ideal S1x1x8192x256 .fp8e4m3)
    (x3 : Vec Ideal S1x1x16x1x512 .f32) (x4 : Vec Ideal S1x1x8192x256 .fp8e4m3) (x5 : Vec Ideal S1x1x1x256 .f32)
    (e0 : ∀ d : Fin 256, x0 (ix4 (0 : Fin 1) (0 : Fin 1) r d) = a0 (ix4 b h p d))
    (e1 : x1 (ix5 (0 : Fin 1) (0 : Fin 1) (0 : Fin 1) (0 : Fin 1) r) = a1 (at16 b h p))
    (e2 : ∀ (l : Fin 8192) (d : Fin 256), x2 (ix4 (0 : Fin 1) (0 : Fin 1) l d) = a2 (ix4 b h l d))
    (e3 : ∀ (k : Fin 16) (u : Fin 512), x3 (ix5 (0 : Fin 1) (0 : Fin 1) k (0 : Fin 1) u) = a3 (ix5 b h k (0 : Fin 1) u))
    (e4 : ∀ (l : Fin 8192) (d : Fin 256), x4 (ix4 (0 : Fin 1) (0 : Fin 1) l d) = a4 (ix4 b h l d))
    (e5 : ∀ d : Fin 256, x5 (ix4 (0 : Fin 1) (0 : Fin 1) (0 : Fin 1) d) = a5 (ix4 b h (0 : Fin 1) d))
    (e6 : v1 = a6 (ix1 b))
    (hq : (0 : EReal) < a1 (at16 b h p)) (hq' : a1 (at16 b h p) < ⊤) :
    Blk v1 hw x0 x1 x2 x3 x4 x5 (ix4 (0 : Fin 1) (0 : Fin 1) r d)
      = Cert.ReferenceIdeal.Value.G7 (F := Ideal) a0 a1 a2 a3 a4 a5 a6 (ix4 b h p d) := by
  let Vr : ℕ → EReal := fun l => if hl : l < 8192 then a4 (ix4 b h (⟨l, hl⟩ : Fin 8192) d) else 0
  have hVr : ∀ l : Fin 8192, a4 (ix4 b h l d) = Vr l.val := fun l => by
    show _ = dite _ _ _
    rw [dif_pos l.isLt]
  obtain ⟨M, hM, hB⟩ := Blk_apply v1 hw hv x0 x1 x2 x3 x4 x5 r d Vr (fun l => (e4 l d).trans (hVr l))
  obtain ⟨ρ, hρ⟩ : ∃ ρ : ℝ, a1 (at16 b h p) = (ρ : EReal) :=
    ⟨(a1 (at16 b h p)).toReal, (EReal.coe_toReal hq'.ne (ne_bot_of_gt hq)).symm⟩
  have hρ0 : 0 < ρ := by rw [hρ] at hq; exact_mod_cast hq
  have hU : Ur x0 x2 x3 v1 r = Ug a0 a2 a3 a6 b h p := by
    show U _ _ _ _ = U _ _ _ _
    rw [e6]
    have h1 : (fun d => x0 (ix4 (0 : Fin 1) (0 : Fin 1) r d)) = fun d => a0 (ix4 b h p d) := funext e0
    have h2 : (fun (l : Fin 8192) (d : Fin 256) => x2 (ix4 (0 : Fin 1) (0 : Fin 1) l d)) = fun l d => a2 (ix4 b h l d) :=
      funext fun l => funext fun d => e2 l d
    have h3 : (fun l : Fin 8192 => x3 (ix5 (0 : Fin 1) (0 : Fin 1) (⟨l.val / 512, by omega⟩ : Fin 16) (0 : Fin 1) (⟨l.val % 512, by omega⟩ : Fin 512)))
        = fun l => a3 (at16 b h l) := funext fun l => e3 _ _
    exact congrArg₂ (fun f g => f g (a6 (ix1 b))) (congrArg₂ U h1 h2) h3
  rw [hB, G7_apply a0 a1 a2 a3 a4 a5 a6 b h p d hq, hU, e1, e5, lit8, lit448, lit256, lit256inv, hρ]
  rw [hU] at hM
  have hM' : ∀ z, Mg a6 a1 a3 a0 a2 b h p ≤ z ↔ ∀ l < 8192, Ug a0 a2 a3 a6 b h p l * (ρ : EReal) ≤ z := fun z => by
    rw [← hρ]
    show univ.fold max ⊥ _ ≤ z ↔ _
    rw [Finset.fold_max_le]
    exact ⟨fun hz l hl => hz.2 (⟨l, hl⟩ : Fin 8192) (mem_univ _), fun hz => ⟨bot_le, fun l _ => hz l.val l.isLt⟩⟩
  have hU0 : ∀ l, 512 * Hand.chunks v1 ≤ l → Ug a0 a2 a3 a6 b h p l = ⊥ := fun l hl => by
    rw [← hU]; exact U_past _ _ _ _ _ hl
  have hN : 512 * Hand.chunks v1 ≤ 8192 := by have := Hand.chunks_le v1 hv; omega
  generalize Mg a6 a1 a3 a0 a2 b h p = M' at hM' ⊢
  generalize Ug a0 a2 a3 a6 b h p = u at hM hM' hU0 ⊢
  generalize 512 * Hand.chunks v1 = N at hM hU0 hN ⊢
  generalize a5 (ix4 b h (0 : Fin 1) d) = w
  have s1 : (∑ l : Fin 8192, min (Ideal.exp (u l.val * (ρ : EReal) - M') * ((256 : ℝ) : EReal)) ((448 : ℝ) : EReal) * a4 (ix4 b h l d))
      = ∑ l ∈ range 8192, min (Ideal.exp (u l * (ρ : EReal) - M') * ((256 : ℝ) : EReal)) ((448 : ℝ) : EReal) * Vr l := by
    rw [Finset.sum_range]
    exact Finset.sum_congr rfl fun l _ => by rw [hVr l]
  have s2 : (∑ l : Fin 8192, Ideal.exp (u l.val * (ρ : EReal) - M')) = ∑ l ∈ range 8192, Ideal.exp (u l * (ρ : EReal) - M') := by
    rw [Finset.sum_range]
  rw [s1, s2]
  exact Cert.Row.row_eq ρ hρ0 u N hN hU0 M M' hM hM' Vr w

end Cert.AttendIdeal.Gen
-- ==== Proof.AttendIdeal.Point.lean ====
/- The value a grid point's run leaves in its output block is the plain recursion's. -/
module

public import proofs.«01_k».proof.Proof.AttendIdeal.Block
public import proofs.«01_k».proof.Proof.WordsI
public import Idealize.ShloMosaic.Lib.WritesUnit
public import Idealize.ShloMosaic.Lib.VecWindow

@[expose] public section

-- membership in a rectangle of production extents (`View.cover_of_tiled`): the elaborator's structural look
-- recurses once per coordinate of the long axes
set_option maxRecDepth 16384

noncomputable section

namespace Cert.AttendIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The row's length at a grid point. -/
abbrev W (c : Dev nD) (i : grid0.Coords) (xt0 : TbBuf0 (F := F) c tbM0_0) : Elt F .i32 :=
  kernelRun0_A.sl.r c i xt0

theorem v24_eq (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (W c i xt0)) (hv : (W c i xt0).toInt ≤ 8192) :
    kernelRun0_A.sl.v24 c i arg4 harg4 arg5 harg5 arg6 harg6 arg7 harg7 arg8 harg8 arg9 harg9 arg10 harg10 arg11 harg11 arg12 harg12 arg13 harg13 arg14 harg14 x0 x2 x3 xs0 xt0 k0_hw1 = Mx (W c i xt0) k0_hw1 x0 x2 x3 (k0_t1_loop (W c i xt0)).trips := by
  delta kernelRun0_A.sl.v24
  generalize hST2 : st_k0_t2 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST2
  generalize hST1 : st_k0_t1 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST1 at hST2
  have h2 : ST2 = (ST1.1, [], []) := by
    rw [← hST2]
    exact st2_none (hn := t2_zero (W c i xt0)) ..
  subst h2
  rw [List.nil_append]
  unfold View.readCov
  rw [View.writes_append]
  refine (View.readAt_full (s := S512x128) arg12.view _ (off := ![0, 0]) inb_S512x128_S512x128_0_0).trans ?_
  have hk : st_k0_t1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) (harg11.unread xs0) (arg12.view.writes (Elt F) arg12.view.junk kernelRun0_A.sl.HS1_1) 0#32 (k0_t1_loop (W c i xt0)).trips = ST1 := by rw [← hST1]
  have hp := (pass1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) hv (harg11.unread xs0) (arg12.view.writes (Elt F) arg12.view.junk kernelRun0_A.sl.HS1_1) 0#32 (View.read_writes_full (s := S512x128) arg12.view arg12.view.junk (off := ![0, 0]) inb_S512x128_S512x128_0_0 _ _) (k0_t1_loop (W c i xt0)).trips le_rfl).1
  rw [hk] at hp
  refine hp.trans ?_
  rw [harg6.read_unread, harg7.read_unread, View.readAt_full (s := S1x1x512x256) arg4.view _ (off := ![0, 0, 0, 0]), harg4.read_unread]

theorem v50_eq (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (W c i xt0)) (hv : (W c i xt0).toInt ≤ 8192) :
    kernelRun0_A.sl.v50 c i arg4 harg4 arg5 harg5 arg6 harg6 arg7 harg7 arg8 harg8 arg9 harg9 arg10 harg10 arg11 harg11 arg12 harg12 arg13 harg13 arg14 harg14 x0 x1 x2 x3 x4 xs0 xt0 k0_hw1 = Lx (W c i xt0) (k0_pay10 x1) (Ms (W c i xt0) k0_hw1 x0 x1 x2 x3) (T (W c i xt0) k0_hw1 x0 x2 x3) (k0_t3_loop (W c i xt0)).trips := by
  have e5 : View.readAt (Elt F) arg5.view (Rect.unit (s := S1x1x1x1x512) ![0, 0, 0, 0, 0] S1x1x1x1x512.size inb_S1x1x1x1x512_S1x1x1x1x512_0_0_0_0_0).toLoadRect (harg5.unread x1) = x1 := by
    rw [View.readAt_full (s := S1x1x1x1x512) arg5.view _ (off := ![0, 0, 0, 0, 0]), harg5.read_unread]
  have hr1 : kernelRun0_A.sl.r_1 c arg5 harg5 x1 = k0_pay10 x1 := congrArg k0_pay10 e5
  have hr2 : kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1 = k0_pay11 x1 (Mx (W c i xt0) k0_hw1 x0 x2 x3 (k0_t1_loop (W c i xt0)).trips) :=
    congrArg₂ k0_pay11 e5 (v24_eq c i arg4 harg4 arg5 harg5 arg6 harg6 arg7 harg7 arg8 harg8 arg9 harg9 arg10 harg10 arg11 harg11 arg12 harg12 arg13 harg13 arg14 harg14 x0 x1 x2 x3 x4 x5 xs0 xt0 k0_hw1 hv)
  delta kernelRun0_A.sl.v50
  generalize hST4 : st_k0_t4 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ _ _ _ = ST4
  generalize hST3 : st_k0_t3 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ _ _ _ = ST3 at hST4
  have h4 : ST4 = (ST3.1, [], []) := by
    rw [← hST4]
    exact st4_none (hn := t4_zero (W c i xt0)) ..
  clear hST4
  subst h4
  generalize hST2 : st_k0_t2 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST2 at hST3
  generalize hST1 : st_k0_t1 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST1 at hST2 hST3
  have h2 : ST2 = (ST1.1, [], []) := by
    rw [← hST2]
    exact st2_none (hn := t2_zero (W c i xt0)) ..
  subst h2
  rw [List.nil_append]
  unfold View.readCov
  rw [View.writes_append]
  refine (View.readAt_full (s := S512x128) arg13.view _ (off := ![0, 0]) inb_S512x128_S512x128_0_0).trans ?_
  have hk : st_k0_t1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) (harg11.unread xs0) (arg12.view.writes (Elt F) arg12.view.junk kernelRun0_A.sl.HS1_1) 0#32 (k0_t1_loop (W c i xt0)).trips = ST1 := by rw [← hST1]
  have hp := (pass1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) hv (harg11.unread xs0) (arg12.view.writes (Elt F) arg12.view.junk kernelRun0_A.sl.HS1_1) 0#32 (View.read_writes_full (s := S512x128) arg12.view arg12.view.junk (off := ![0, 0]) inb_S512x128_S512x128_0_0 _ _) (k0_t1_loop (W c i xt0)).trips le_rfl).2
  rw [hk, harg6.read_unread, harg7.read_unread, View.readAt_full (s := S1x1x512x256) arg4.view _ (off := ![0, 0, 0, 0]), harg4.read_unread] at hp
  have hk3 : st_k0_t3 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (kernelRun0_A.sl.v3 c i xt0) (kernelRun0_A.sl.r_1 c arg5 harg5 x1) (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1) (harg8.unread x4) (arg11.view.writes (Elt F) (harg11.unread xs0) ST1.2.1)
    (arg12.view.writes (Elt F) arg12.view.junk (⟨Rect.unit (s := S512x128) ![0, 0] S512x128.size inb_S512x128_S512x128_0_0, k0_pay12 (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1)⟩ :: (ST1.2.2 ++ kernelRun0_A.sl.HS1_1)))
    (arg13.view.writes (Elt F) arg13.view.junk kernelRun0_A.sl.HS2_1) (arg14.view.writes (Elt F) arg14.view.junk kernelRun0_A.sl.HS3_1) 0#32 (k0_t3_loop (W c i xt0)).trips = ST3 := by rw [← hST3]; rfl
  have hq := pass2 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (kernelRun0_A.sl.v3 c i xt0) (kernelRun0_A.sl.r_1 c arg5 harg5 x1) (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1) (harg8.unread x4) (arg11.view.writes (Elt F) (harg11.unread xs0) ST1.2.1)
    (arg12.view.writes (Elt F) arg12.view.junk (⟨Rect.unit (s := S512x128) ![0, 0] S512x128.size inb_S512x128_S512x128_0_0, k0_pay12 (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1)⟩ :: (ST1.2.2 ++ kernelRun0_A.sl.HS1_1)))
    (arg13.view.writes (Elt F) arg13.view.junk kernelRun0_A.sl.HS2_1) (arg14.view.writes (Elt F) arg14.view.junk kernelRun0_A.sl.HS3_1) 0#32
    (T (W c i xt0) k0_hw1 x0 x2 x3) (fun k => funext fun y => hp k k.isLt y) (View.read_writes_full (s := S512x128) arg13.view arg13.view.junk (off := ![0, 0]) inb_S512x128_S512x128_0_0 _ _) (View.read_writes_full (s := S512x256) arg14.view arg14.view.junk (off := ![0, 0]) inb_S512x256_S512x256_0_0 _ _) (k0_t3_loop (W c i xt0)).trips le_rfl
  rw [hk3] at hq
  refine hq.1.trans ?_
  rw [View.read_writes_full (s := S512x128) arg12.view arg12.view.junk (off := ![0, 0]) inb_S512x128_S512x128_0_0, hr1, hr2]
  rfl

theorem v53_eq (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (W c i xt0)) (hv : (W c i xt0).toInt ≤ 8192) :
    kernelRun0_A.sl.v53 c i arg4 harg4 arg5 harg5 arg6 harg6 arg7 harg7 arg8 harg8 arg9 harg9 arg10 harg10 arg11 harg11 arg12 harg12 arg13 harg13 arg14 harg14 x0 x1 x2 x3 x4 xs0 xt0 k0_hw1 = Ax (W c i xt0) k0_hw1 (k0_pay10 x1) (Ms (W c i xt0) k0_hw1 x0 x1 x2 x3) (T (W c i xt0) k0_hw1 x0 x2 x3) x4 (k0_t3_loop (W c i xt0)).trips := by
  have e5 : View.readAt (Elt F) arg5.view (Rect.unit (s := S1x1x1x1x512) ![0, 0, 0, 0, 0] S1x1x1x1x512.size inb_S1x1x1x1x512_S1x1x1x1x512_0_0_0_0_0).toLoadRect (harg5.unread x1) = x1 := by
    rw [View.readAt_full (s := S1x1x1x1x512) arg5.view _ (off := ![0, 0, 0, 0, 0]), harg5.read_unread]
  have hr1 : kernelRun0_A.sl.r_1 c arg5 harg5 x1 = k0_pay10 x1 := congrArg k0_pay10 e5
  have hr2 : kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1 = k0_pay11 x1 (Mx (W c i xt0) k0_hw1 x0 x2 x3 (k0_t1_loop (W c i xt0)).trips) :=
    congrArg₂ k0_pay11 e5 (v24_eq c i arg4 harg4 arg5 harg5 arg6 harg6 arg7 harg7 arg8 harg8 arg9 harg9 arg10 harg10 arg11 harg11 arg12 harg12 arg13 harg13 arg14 harg14 x0 x1 x2 x3 x4 x5 xs0 xt0 k0_hw1 hv)
  delta kernelRun0_A.sl.v53
  generalize hST4 : st_k0_t4 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ _ _ _ = ST4
  generalize hST3 : st_k0_t3 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ _ _ _ = ST3 at hST4
  have h4 : ST4 = (ST3.1, [], []) := by
    rw [← hST4]
    exact st4_none (hn := t4_zero (W c i xt0)) ..
  clear hST4
  subst h4
  generalize hST2 : st_k0_t2 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST2 at hST3
  generalize hST1 : st_k0_t1 (F := F) Variants.none c none i tbM0_0 htbM0_0 arg4 harg4 arg5 harg5 arg6 harg6 arg7 harg7 arg8 harg8 arg9 harg9 arg10 harg10 arg11 harg11 arg12 harg12 arg13 harg13 arg14 harg14 _ _ _ _ _ _ _ _ _ = ST1 at hST2 hST3
  have h2 : ST2 = (ST1.1, [], []) := by
    rw [← hST2]
    exact st2_none (hn := t2_zero (W c i xt0)) ..
  subst h2
  rw [List.nil_append]
  unfold View.readCov
  rw [View.writes_append]
  refine (View.readAt_full (s := S512x256) arg14.view _ (off := ![0, 0]) inb_S512x256_S512x256_0_0).trans ?_
  have hk : st_k0_t1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) (harg11.unread xs0) (arg12.view.writes (Elt F) arg12.view.junk kernelRun0_A.sl.HS1_1) 0#32 (k0_t1_loop (W c i xt0)).trips = ST1 := by rw [← hST1]
  have hp := (pass1 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (View.readAt (Elt F) arg4.view (Rect.unit (s := S1x1x512x256) ![0, 0, 0, 0] S1x1x512x256.size inb_S1x1x512x256_S1x1x512x256_0_0_0_0).toLoadRect (harg4.unread x0)) (harg6.unread x2) (harg7.unread x3) hv (harg11.unread xs0) (arg12.view.writes (Elt F) arg12.view.junk kernelRun0_A.sl.HS1_1) 0#32 (View.read_writes_full (s := S512x128) arg12.view arg12.view.junk (off := ![0, 0]) inb_S512x128_S512x128_0_0 _ _) (k0_t1_loop (W c i xt0)).trips le_rfl).2
  rw [hk, harg6.read_unread, harg7.read_unread, View.readAt_full (s := S1x1x512x256) arg4.view _ (off := ![0, 0, 0, 0]), harg4.read_unread] at hp
  have hk3 : st_k0_t3 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (kernelRun0_A.sl.v3 c i xt0) (kernelRun0_A.sl.r_1 c arg5 harg5 x1) (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1) (harg8.unread x4) (arg11.view.writes (Elt F) (harg11.unread xs0) ST1.2.1)
    (arg12.view.writes (Elt F) arg12.view.junk (⟨Rect.unit (s := S512x128) ![0, 0] S512x128.size inb_S512x128_S512x128_0_0, k0_pay12 (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1)⟩ :: (ST1.2.2 ++ kernelRun0_A.sl.HS1_1)))
    (arg13.view.writes (Elt F) arg13.view.junk kernelRun0_A.sl.HS2_1) (arg14.view.writes (Elt F) arg14.view.junk kernelRun0_A.sl.HS3_1) 0#32 (k0_t3_loop (W c i xt0)).trips = ST3 := by rw [← hST3]; rfl
  have hq := pass2 (F := F) Variants.none c none i tbM0_0 htbM0_0 arg4 harg4 arg5 harg5 arg6 harg6 arg7 harg7 arg8 harg8 arg9 harg9 arg10 harg10 arg11 harg11 arg12 harg12 arg13 harg13 arg14 harg14 (W c i xt0) k0_hw1 (kernelRun0_A.sl.v3 c i xt0) (kernelRun0_A.sl.r_1 c arg5 harg5 x1) (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1) (harg8.unread x4) (arg11.view.writes (Elt F) (harg11.unread xs0) ST1.2.1)
    (arg12.view.writes (Elt F) arg12.view.junk (⟨Rect.unit (s := S512x128) ![0, 0] S512x128.size inb_S512x128_S512x128_0_0, k0_pay12 (kernelRun0_A.sl.r_2 c i arg4 harg4 arg5 harg5 arg6 harg6 arg7 harg7 arg8 harg8 arg9 harg9 arg10 harg10 arg11 harg11 arg12 harg12 arg13 harg13 arg14 harg14 x0 x1 x2 x3 xs0 xt0 k0_hw1)⟩ :: (ST1.2.2 ++ kernelRun0_A.sl.HS1_1)))
    (arg13.view.writes (Elt F) arg13.view.junk kernelRun0_A.sl.HS2_1) (arg14.view.writes (Elt F) arg14.view.junk kernelRun0_A.sl.HS3_1) 0#32
    (T (W c i xt0) k0_hw1 x0 x2 x3) (fun k => funext fun y => hp k k.isLt y) (View.read_writes_full (s := S512x128) arg13.view arg13.view.junk (off := ![0, 0]) inb_S512x128_S512x128_0_0 _ _) (View.read_writes_full (s := S512x256) arg14.view arg14.view.junk (off := ![0, 0]) inb_S512x256_S512x256_0_0 _ _) (k0_t3_loop (W c i xt0)).trips le_rfl
  rw [hk3] at hq
  refine hq.2.trans ?_
  rw [View.read_writes_full (s := S512x128) arg12.view arg12.view.junk (off := ![0, 0]) inb_S512x128_S512x128_0_0, hr1, hr2, harg8.read_unread]
  rfl

/-- The output block a grid point's run leaves is the plain recursion's. -/
theorem out_eq (c : Dev nD) (i : grid0.Coords) (arg4 : Memref sig .tc .vmem S1x1x512x256 .fp8e4m3) (harg4 : arg4.IsWhole) (arg5 : Memref sig .tc .vmem S1x1x1x1x512 .f32) (harg5 : arg5.IsWhole) (arg6 : Memref sig .tc .vmem S1x1x8192x256 .fp8e4m3) (harg6 : arg6.IsWhole) (arg7 : Memref sig .tc .vmem S1x1x16x1x512 .f32) (harg7 : arg7.IsWhole) (arg8 : Memref sig .tc .vmem S1x1x8192x256 .fp8e4m3) (harg8 : arg8.IsWhole) (arg9 : Memref sig .tc .vmem S1x1x1x256 .f32) (harg9 : arg9.IsWhole) (arg10 : Memref sig .tc .vmem S1x1x512x256 .bf16) (harg10 : arg10.IsWhole) (arg11 : Memref sig .tc .vmem S16x512x512 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x256 .f32) (harg14 : arg14.IsWhole)
    (x0 : Vec F S1x1x512x256 .fp8e4m3) (x1 : Vec F S1x1x1x1x512 .f32) (x2 : Vec F S1x1x8192x256 .fp8e4m3) (x3 : Vec F S1x1x16x1x512 .f32) (x4 : Vec F S1x1x8192x256 .fp8e4m3) (x5 : Vec F S1x1x1x256 .f32) (xs0 : Vec F S16x512x512 .f32) (xt0 : TbBuf0 (F := F) c tbM0_0) (k0_hw1 : k0_chk1 (W c i xt0)) (hv : (W c i xt0).toInt ≤ 8192) :
    out0_A_6 c i arg4 harg4 arg5 harg5 arg6 harg6 arg7 harg7 arg8 harg8 arg9 harg9 arg10 harg10 arg11 harg11 arg12 harg12 arg13 harg13 arg14 harg14 x0 x1 x2 x3 x4 x5 xs0 xt0 k0_hw1 = Blk (W c i xt0) k0_hw1 x0 x1 x2 x3 x4 x5 := by
  have e9 : View.readAt (Elt F) arg9.view (Rect.unit (s := S1x1x1x256) ![0, 0, 0, 0] S1x1x1x256.size inb_S1x1x1x256_S1x1x1x256_0_0_0_0).toLoadRect (harg9.unread x5) = x5 := by
    rw [View.readAt_full (s := S1x1x1x256) arg9.view _ (off := ![0, 0, 0, 0]), harg9.read_unread]
  have h22 : kernelRun0_A.sl.r_3 c i arg4 harg4 arg5 harg5 arg6 harg6 arg7 harg7 arg8 harg8 arg9 harg9 arg10 harg10 arg11 harg11 arg12 harg12 arg13 harg13 arg14 harg14 x0 x1 x2 x3 x4 x5 xs0 xt0 k0_hw1 = k0_pay22 (Lx (W c i xt0) (k0_pay10 x1) (Ms (W c i xt0) k0_hw1 x0 x1 x2 x3) (T (W c i xt0) k0_hw1 x0 x2 x3) (k0_t3_loop (W c i xt0)).trips)
      (Ax (W c i xt0) k0_hw1 (k0_pay10 x1) (Ms (W c i xt0) k0_hw1 x0 x1 x2 x3) (T (W c i xt0) k0_hw1 x0 x2 x3) x4 (k0_t3_loop (W c i xt0)).trips) x5 := by
    rw [← v50_eq c i arg4 harg4 arg5 harg5 arg6 harg6 arg7 harg7 arg8 harg8 arg9 harg9 arg10 harg10 arg11 harg11 arg12 harg12 arg13 harg13 arg14 harg14 x0 x1 x2 x3 x4 x5 xs0 xt0 k0_hw1 hv, ← v53_eq c i arg4 harg4 arg5 harg5 arg6 harg6 arg7 harg7 arg8 harg8 arg9 harg9 arg10 harg10 arg11 harg11 arg12 harg12 arg13 harg13 arg14 harg14 x0 x1 x2 x3 x4 x5 xs0 xt0 k0_hw1 hv]
    exact congrArg (k0_pay22 _ _) e9
  unfold out0_A_6 Blk
  rw [← h22]
  exact View.read_writes_full (s := S1x1x512x256) VO0_6 VO0_6.junk (off := ![0, 0, 0, 0]) inb_S1x1x512x256_S1x1x512x256_0_0_0_0 _ _

end Cert.AttendIdeal.Gen

end
-- ==== Proof.AttendIdeal.Grid.lean ====
/- The kernel's blocks at coordinates: which elements of its arrays each grid point reads and writes. -/
module

public import proofs.«01_k».proof.Proof.AttendIdeal.Point
public import proofs.«01_k».proof.Proof.AttendIdeal.Named
public import Idealize.ShloMosaic.Lib.Pipeline.Value
public import Idealize.ShloMosaic.Lib.Pipeline.Covers
public import Idealize.ShloMosaic.Lib.ValueIdx

@[expose] public section

set_option maxRecDepth 16384

noncomputable section

namespace Cert.AttendIdeal.Gen

open Idealize.ShloMosaic Idealize.ShloMosaic.TcCoe Idealize.ShloMosaic.ValueIdx
open Idealize.ShloMosaic.Pipeline (Dat Cfg Window)

variable {F : FTy → Type} [FloatOps F] [Named F]
variable (m : (ℓ : Loc nD τ sig) → Buf (Elt F) ℓ)

/-- The sequence of a grid point, -/
abbrev bI (i : grid0.Coords) : Fin 8 := i 0

/-- its head, -/
abbrev hI (i : grid0.Coords) : Fin 8 := i 1

/-- its query tile, -/
abbrev sI (i : grid0.Coords) : Fin 16 := i 2

/-- and the query at a row of the tile. -/
abbrev pI (i : grid0.Coords) (r : Fin 512) : Fin 8192 := ⟨512 * (sI i).val + r.val, by have := (sI i).isLt; omega⟩

theorem word8 (n : Fin 8) : (BitVec.ofNat 32 n.val).toNat = n.val := by
  have := n.isLt; rw [BitVec.toNat_ofNat]; omega

theorem word16 (n : Fin 16) : (BitVec.ofNat 32 n.val).toNat = n.val := by
  have := n.isLt; rw [BitVec.toNat_ofNat]; omega

/-- The query codes' block in its array. -/
theorem emb0 (hO : Ok m) (t : Fin (cfgM m hO).N) (y : S1x1x512x256.Idx) :
    (((cfgM m hO).win 0).blk t).view.emb y = ix4 (bI (grid0.coords t)) (hI (grid0.coords t)) (pI (grid0.coords t) (y 2)) (y 3) := by
  have w0 := word8 (bI (grid0.coords t)); have w1 := word8 (hI (grid0.coords t)); have w2 := word16 (sI (grid0.coords t))
  have h0 : (y 0).val < 1 := (y 0).isLt
  have h1 : (y 1).val < 1 := (y 1).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show (BitVec.ofNat 32 (sI (grid0.coords t)).val).toNat * 512 + 1 * (y 2).val = 512 * (sI (grid0.coords t)).val + (y 2).val; omega
  | ⟨3, _⟩ => show 0 * 256 + 1 * (y 3).val = (y 3).val; omega

/-- The query scales' block in its array. -/
theorem emb1 (hO : Ok m) (t : Fin (cfgM m hO).N) (y : S1x1x1x1x512.Idx) :
    (((cfgM m hO).win 1).blk t).view.emb y = ix5 (bI (grid0.coords t)) (hI (grid0.coords t)) (sI (grid0.coords t)) (0 : Fin 1) (y 4) := by
  have w0 := word8 (bI (grid0.coords t)); have w1 := word8 (hI (grid0.coords t)); have w2 := word16 (sI (grid0.coords t))
  have h0 : (y 0).val < 1 := (y 0).isLt
  have h1 : (y 1).val < 1 := (y 1).isLt
  have h2 : (y 2).val < 1 := (y 2).isLt
  have h3 : (y 3).val < 1 := (y 3).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show (BitVec.ofNat 32 (sI (grid0.coords t)).val).toNat * 1 + 1 * (y 2).val = (sI (grid0.coords t)).val; omega
  | ⟨3, _⟩ => show 0 * 1 + 1 * (y 3).val = 0; omega
  | ⟨4, _⟩ => show 0 * 512 + 1 * (y 4).val = (y 4).val; omega

/-- The key codes' block in its array. -/
theorem emb2 (hO : Ok m) (t : Fin (cfgM m hO).N) (y : S1x1x8192x256.Idx) :
    (((cfgM m hO).win 2).blk t).view.emb y = ix4 (bI (grid0.coords t)) (hI (grid0.coords t)) (y 2) (y 3) := by
  have w0 := word8 (bI (grid0.coords t)); have w1 := word8 (hI (grid0.coords t))
  have h0 : (y 0).val < 1 := (y 0).isLt
  have h1 : (y 1).val < 1 := (y 1).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show 0 * 8192 + 1 * (y 2).val = (y 2).val; omega
  | ⟨3, _⟩ => show 0 * 256 + 1 * (y 3).val = (y 3).val; omega

/-- The key scales' block in its array. -/
theorem emb3 (hO : Ok m) (t : Fin (cfgM m hO).N) (y : S1x1x16x1x512.Idx) :
    (((cfgM m hO).win 3).blk t).view.emb y = ix5 (bI (grid0.coords t)) (hI (grid0.coords t)) (y 2) (0 : Fin 1) (y 4) := by
  have w0 := word8 (bI (grid0.coords t)); have w1 := word8 (hI (grid0.coords t))
  have h0 : (y 0).val < 1 := (y 0).isLt
  have h1 : (y 1).val < 1 := (y 1).isLt
  have h3 : (y 3).val < 1 := (y 3).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show 0 * 16 + 1 * (y 2).val = (y 2).val; omega
  | ⟨3, _⟩ => show 0 * 1 + 1 * (y 3).val = 0; omega
  | ⟨4, _⟩ => show 0 * 512 + 1 * (y 4).val = (y 4).val; omega

/-- The value codes' block in its array. -/
theorem emb4 (hO : Ok m) (t : Fin (cfgM m hO).N) (y : S1x1x8192x256.Idx) :
    (((cfgM m hO).win 4).blk t).view.emb y = ix4 (bI (grid0.coords t)) (hI (grid0.coords t)) (y 2) (y 3) := by
  have w0 := word8 (bI (grid0.coords t)); have w1 := word8 (hI (grid0.coords t))
  have h0 : (y 0).val < 1 := (y 0).isLt
  have h1 : (y 1).val < 1 := (y 1).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show 0 * 8192 + 1 * (y 2).val = (y 2).val; omega
  | ⟨3, _⟩ => show 0 * 256 + 1 * (y 3).val = (y 3).val; omega

/-- The value scales' block in its array. -/
theorem emb5 (hO : Ok m) (t : Fin (cfgM m hO).N) (y : S1x1x1x256.Idx) :
    (((cfgM m hO).win 5).blk t).view.emb y = ix4 (bI (grid0.coords t)) (hI (grid0.coords t)) (0 : Fin 1) (y 3) := by
  have w0 := word8 (bI (grid0.coords t)); have w1 := word8 (hI (grid0.coords t))
  have h0 : (y 0).val < 1 := (y 0).isLt
  have h1 : (y 1).val < 1 := (y 1).isLt
  have h2 : (y 2).val < 1 := (y 2).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show 0 * 1 + 1 * (y 2).val = 0; omega
  | ⟨3, _⟩ => show 0 * 256 + 1 * (y 3).val = (y 3).val; omega

/-- The result's block in its array. -/
theorem emb6 (hO : Ok m) (t : Fin (cfgM m hO).N) (y : S1x1x512x256.Idx) :
    (((cfgM m hO).win 6).blk t).view.emb y = ix4 (bI (grid0.coords t)) (hI (grid0.coords t)) (pI (grid0.coords t) (y 2)) (y 3) := by
  have w0 := word8 (bI (grid0.coords t)); have w1 := word8 (hI (grid0.coords t)); have w2 := word16 (sI (grid0.coords t))
  have h0 : (y 0).val < 1 := (y 0).isLt
  have h1 : (y 1).val < 1 := (y 1).isLt
  funext a; apply Fin.ext
  match a with
  | ⟨0, _⟩ => show (BitVec.ofNat 32 (bI (grid0.coords t)).val).toNat * 1 + 1 * (y 0).val = (bI (grid0.coords t)).val; omega
  | ⟨1, _⟩ => show (BitVec.ofNat 32 (hI (grid0.coords t)).val).toNat * 1 + 1 * (y 1).val = (hI (grid0.coords t)).val; omega
  | ⟨2, _⟩ => show (BitVec.ofNat 32 (sI (grid0.coords t)).val).toNat * 512 + 1 * (y 2).val = 512 * (sI (grid0.coords t)).val + (y 2).val; omega
  | ⟨3, _⟩ => show 0 * 256 + 1 * (y 3).val = (y 3).val; omega

/-- The word a grid point reads of the table of lengths is its sequence's. -/
theorem W_tbl (c : Dev nD) (i : grid0.Coords) : W (F := F) c i (tbl m 0) = m ((c : Thread nD τ).loc main_arg6) (ix1 (bI i)) := by
  obtain rfl : c = 0 := Subsingleton.elim _ _
  have w0 := word8 (bI i)
  show tbl m 0 ((Rect.unit (s := S8) (k0_off1 i) S1.size (k0_off1_inb i)).toLoadRect.idx (Shape.Idx.first (numel1_S1.symm ▸ Nat.one_pos))) = tbl m 0 (ix1 (bI i))
  refine congrArg (tbl m 0) ?_
  funext a; apply Fin.ext
  match a with
  | ⟨0, _⟩ => show (BitVec.ofNat 32 (bI i).val).toNat + 1 * 0 = (bI i).val; omega

/-- Every element of the result lies in some grid point's block. -/
theorem cover6 (hO : Ok m) (j : S8x8x8192x256.Idx) :
    ∃ t : Fin (cfgM m hO).N, ((cfgM m hO).win 6).flush t = true ∧ j ∈ (((cfgM m hO).win 6).blk t).view.set := by
  have h2 : (j 2).val < 8192 := (j 2).isLt
  obtain ⟨t, ht⟩ := Pipeline.Grid.coords_surjective grid0 (fun a => match a with
    | ⟨0, _⟩ => (j 0 : Fin 8)
    | ⟨1, _⟩ => (j 1 : Fin 8)
    | ⟨2, _⟩ => (⟨(j 2).val / 512, by omega⟩ : Fin 16))
  have hb : bI (grid0.coords t) = j 0 := congrFun ht 0
  have hh : hI (grid0.coords t) = j 1 := congrFun ht 1
  have hs : sI (grid0.coords t) = (⟨(j 2).val / 512, by omega⟩ : Fin 16) := congrFun ht 2
  refine ⟨t, flush0_6 (adm m hO) t, ?_⟩
  let y : S1x1x512x256.Idx := ix4 (0 : Fin 1) (0 : Fin 1) (⟨(j 2).val % 512, Nat.mod_lt _ (by decide)⟩ : Fin 512) (j 3)
  have hy : (((cfgM m hO).win 6).blk t).view.emb y = j := by
    rw [emb6, hb, hh]
    have hp : pI (grid0.coords t) (y 2) = j 2 := Fin.ext (by
      show 512 * (sI (grid0.coords t)).val + (j 2).val % 512 = (j 2).val
      rw [hs]; show 512 * ((j 2).val / 512) + (j 2).val % 512 = (j 2).val; omega)
    rw [hp]; exact (eq_ix4 j).symm
  have := View.emb_mem_set (((cfgM m hO).win 6).blk t).view y
  rwa [hy] at this

end Cert.AttendIdeal.Gen

end
-- ==== Proof.AttendIdeal.Value.lean ====
/- The idealised kernel's result is the reference's, whole arrays: the value claim. -/
module

public import proofs.«01_k».proof.Proof.AttendIdeal.Tile
public import proofs.«01_k».proof.Proof.AttendIdeal.Grid
public import proofs.«01_k».proof.Proof.PreScales
public import proofs.«01_k».proof.Proof.Gen.ReferenceIdeal

@[expose] public section

set_option maxRecDepth 16384

noncomputable section

namespace Cert.AttendIdeal.Gen

open Idealize.ShloMosaic Idealize.ShloMosaic.TcCoe Idealize.ShloMosaic.ValueIdx Idealize.SL.Sem
open Idealize.ShloMosaic.Pipeline (Dat Cfg Window)
open Cert.ReferenceIdeal.Hand (at16)

variable (m : (ℓ : Loc nD τ sig) → Buf (Elt Ideal) ℓ)

/-- The reference's function of the kernel's argument arrays. -/
abbrev want (c : Dev nD) : Buf (Elt Ideal) ((c : Thread nD τ).loc main_v0) :=
  Cert.ReferenceIdeal.Value.G7 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

/-- The query scale at an index. -/
abbrev qs (c : Dev nD) (j : S8x8x16x1x512.Idx) : EReal := m ((c : Thread nD τ).loc main_arg1) j

/-- The word a grid point reads is at most 8192, the lengths being so. -/
theorem W_le (hL : ∀ b : S8.Idx, (tbl m 0 b : BitVec 32).toInt ≤ 8192) (c : Dev nD) (i : grid0.Coords) :
    (W (F := Ideal) c i (tbl m 0) : BitVec 32).toInt ≤ 8192 := hL _

/-- What grid point `t` leaves in the result's block. -/
def Bk (hL : ∀ b : S8.Idx, (tbl m 0 b : BitVec 32).toInt ≤ 8192) (hO : Ok m) (c : Dev nD) (t : Fin (cfgM m hO).N) : Vec Ideal S1x1x512x256 .bf16 :=
  Blk (W (F := Ideal) c (grid0.coords t) (tbl m 0)) (Hand.chk1 _ (W_le m hL c _)) (iblk m hO c 0 t) (iblk m hO c 1 t) (iblk m hO c 2 t) (iblk m hO c 3 t) (iblk m hO c 4 t) (iblk m hO c 5 t)

/-- It is the reference's result at the block's elements. -/
theorem Bk_eq (hL : ∀ b : S8.Idx, (tbl m 0 b : BitVec 32).toInt ≤ 8192) (hO : Ok m) (c : Dev nD)
    (hS : ∀ j : S8x8x16x1x512.Idx, (0 : EReal) < qs m c j ∧ qs m c j < ⊤)
    (t : Fin (cfgM m hO).N) (y : S1x1x512x256.Idx) :
    Bk m hL hO c t y = want m c ((((cfgM m hO).win 6).blk t).view.emb y) := by
  rw [emb6]
  have hp : at16 (bI (grid0.coords t)) (hI (grid0.coords t)) (pI (grid0.coords t) (y 2))
      = ix5 (bI (grid0.coords t)) (hI (grid0.coords t)) (sI (grid0.coords t)) (0 : Fin 1) (y 2) := by
    have h2 : (y 2).val < 512 := (y 2).isLt
    have e1 : (⟨(pI (grid0.coords t) (y 2)).val / 512, by omega⟩ : Fin 16) = sI (grid0.coords t) := Fin.ext (by
      show (512 * (sI (grid0.coords t)).val + (y 2).val) / 512 = _; omega)
    have e2 : (⟨(pI (grid0.coords t) (y 2)).val % 512, Nat.mod_lt _ (by decide)⟩ : Fin 512) = y 2 := Fin.ext (by
      show (512 * (sI (grid0.coords t)).val + (y 2).val) % 512 = _; omega)
    show ix5 _ _ (⟨(pI (grid0.coords t) (y 2)).val / 512, _⟩ : Fin 16) _ (⟨(pI (grid0.coords t) (y 2)).val % 512, _⟩ : Fin 512) = _
    rw [e1, e2]
    rfl
  have hy : y = ix4 (0 : Fin 1) (0 : Fin 1) (y 2) (y 3) := by
    refine (eq_ix4 y).trans ?_
    have a0 : @Eq (Fin 1) (y 0) 0 := Subsingleton.elim (α := Fin 1) _ _
    have a1 : @Eq (Fin 1) (y 1) 0 := Subsingleton.elim (α := Fin 1) _ _
    exact congrArg₂ (fun u v => ix4 u v (y 2) (y 3)) a0 a1
  have hB : Bk m hL hO c t y = Bk m hL hO c t (ix4 (0 : Fin 1) (0 : Fin 1) (y 2) (y 3)) := congrArg _ hy
  rw [hB]
  exact tile_eq (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))
    (bI (grid0.coords t)) (hI (grid0.coords t)) (y 2) (pI (grid0.coords t) (y 2)) (y 3)
    (W (F := Ideal) c (grid0.coords t) (tbl m 0)) (Hand.chk1 _ (W_le m hL c _)) (W_le m hL c _)
    (iblk m hO c 0 t) (iblk m hO c 1 t) (iblk m hO c 2 t) (iblk m hO c 3 t) (iblk m hO c 4 t) (iblk m hO c 5 t)
    (fun d => congrArg (m ((c : Thread nD τ).loc main_arg0)) (emb0 m hO t (ix4 (0 : Fin 1) (0 : Fin 1) (y 2) d)))
    ((congrArg (m ((c : Thread nD τ).loc main_arg1)) (emb1 m hO t (ix5 (0 : Fin 1) (0 : Fin 1) (0 : Fin 1) (0 : Fin 1) (y 2)))).trans
      (congrArg (m ((c : Thread nD τ).loc main_arg1)) hp.symm))
    (fun l d => congrArg (m ((c : Thread nD τ).loc main_arg2)) (emb2 m hO t (ix4 (0 : Fin 1) (0 : Fin 1) l d)))
    (fun k u => congrArg (m ((c : Thread nD τ).loc main_arg3)) (emb3 m hO t (ix5 (0 : Fin 1) (0 : Fin 1) k (0 : Fin 1) u)))
    (fun l d => congrArg (m ((c : Thread nD τ).loc main_arg4)) (emb4 m hO t (ix4 (0 : Fin 1) (0 : Fin 1) l d)))
    (fun d => congrArg (m ((c : Thread nD τ).loc main_arg5)) (emb5 m hO t (ix4 (0 : Fin 1) (0 : Fin 1) (0 : Fin 1) d)))
    (W_tbl m c (grid0.coords t)) (hS _).1 (hS _).2

/-- The result array after every grid point is the reference's. -/
theorem final6 (hL : ∀ b : S8.Idx, (tbl m 0 b : BitVec 32).toInt ≤ 8192) (hO : Ok m) (c : Dev nD)
    (hS : ∀ j : S8x8x16x1x512.Idx, (0 : EReal) < qs m c j ∧ qs m c j < ⊤) :
    (dats m hO (Bk m hL hO) 0 c).arrAt 6 (cfgM m hO).N = want m c := by
  refine (dats m hO (Bk m hL hO) 0 c).arrAt_eq_of_cover 6 (want m c) (fun t _ => ?_) (cover6 m hO)
  show ((cfgM m hO).win 6).cut (grid0.coords t) ((dats m hO (Bk m hL hO) 0 c).after 6 t) = _
  rw [after0_6]
  funext y
  exact Bk_eq m hL hO c hS t y

/-- The idealised kernel and the reference end with equal results, from equal arguments whose lengths fit and whose query
    scales are positive and finite. -/
theorem algebraic : @Cert.algebraic_AttendIdeal_ReferenceIdeal_pre_scales_ok Cert.AttendIdeal.Gen.facts Cert.ReferenceIdeal.Gen.facts Cert.Pre_scales_ok.Gen.facts := by
  intro m g m' g' hpre hargs
  have hL : ∀ b : S8.Idx, (tbl m 0 b : BitVec 32).toInt ≤ 8192 := fun b => Cert.Proof.lens_of_ok _ _ _ _ _ _ _ (hpre 0) b
  have hO : Ok m := trivial
  have hS : ∀ (c : Dev nD) (j : S8x8x16x1x512.Idx), (0 : EReal) < qs m c j ∧ qs m c j < ⊤ :=
    fun c j => Cert.Proof.scales_of_ok _ _ _ _ _ _ _ (hpre c) j
  have hH : Hyps m hO := Cert.Proof.hyps_ideal m hL hO
  have hA := A_eq m hO (Bk m hL hO)
  refine ⟨want m, ?_, ?_⟩
  · refine (θ_run defs _ _).mono (fun r hr c => ?_) (run_mainN m g hO (Bk m hL hO) hH (fun c t xs0 => ?_))
    · have h := hr.1
      exact ⟨((h c).1 6).trans (final6 m hL hO c (hS c)),
        ((h c).1 0).trans (((dats m hO (Bk m hL hO) 0 c).arrAt_in 0 rfl _).trans ((hA c 0).trans (V_main_arg0 m c))),
        ((h c).1 1).trans (((dats m hO (Bk m hL hO) 0 c).arrAt_in 1 rfl _).trans ((hA c 1).trans (V_main_arg1 m c))),
        ((h c).1 2).trans (((dats m hO (Bk m hL hO) 0 c).arrAt_in 2 rfl _).trans ((hA c 2).trans (V_main_arg2 m c))),
        ((h c).1 3).trans (((dats m hO (Bk m hL hO) 0 c).arrAt_in 3 rfl _).trans ((hA c 3).trans (V_main_arg3 m c))),
        ((h c).1 4).trans (((dats m hO (Bk m hL hO) 0 c).arrAt_in 4 rfl _).trans ((hA c 4).trans (V_main_arg4 m c))),
        ((h c).1 5).trans (((dats m hO (Bk m hL hO) 0 c).arrAt_in 5 rfl _).trans ((hA c 5).trans (V_main_arg5 m c))),
        ((h c).2 main_arg6 (by decide : main_arg6 ∈ Pipeline.restRefs sig spec0)).trans (V_main_arg6 m c)⟩
    · unfold Out6 Bk
      exact out_eq (hv := W_le m hL c (grid0.coords t)) ..
  · refine (θ_run _ _ _).mono (fun r hr c => ?_) (Cert.ReferenceIdeal.Value.run (F := Ideal) m' g')
    obtain ⟨e0, e1, e2, e3, e4, e5, e6⟩ := hargs c
    obtain ⟨h, hk⟩ := hr c
    refine ⟨h.trans ?_, hk⟩
    rw [e0, e1, e2, e3, e4, e5, e6]

end Cert.AttendIdeal.Gen

end
-- ==== Proof.lean ====
module

public import proofs.«01_k».proof.Defs
public import proofs.«01_k».proof.Proof.Gen.Attend
public import proofs.«01_k».proof.Proof.Gen.Attend.Skeleton
public import proofs.«01_k».proof.Proof.Gen.Attend.Loops
public import proofs.«01_k».proof.Proof.Gen.Attend.Launch
public import proofs.«01_k».proof.Proof.Gen.Attend.Flash
public import proofs.«01_k».proof.Proof.Gen.AttendIdeal
public import proofs.«01_k».proof.Proof.Gen.AttendIdeal.Skeleton
public import proofs.«01_k».proof.Proof.Gen.AttendIdeal.Loops
public import proofs.«01_k».proof.Proof.Gen.AttendIdeal.Launch
public import proofs.«01_k».proof.Proof.Gen.AttendIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Launch
public import proofs.«01_k».proof.Proof.Gen.Quantise.Points
public import proofs.«01_k».proof.Proof.Gen.Quantise.Frame
public import proofs.«01_k».proof.Proof.Gen.Pre_lens_fit
public import proofs.«01_k».proof.Proof.Pre
public import proofs.«01_k».proof.Proof.PreScales
public import proofs.«01_k».proof.Proof.Gen.Pre_scales_ok
public import proofs.«01_k».proof.Proof.Gen.ReferenceIdeal.Value
public import proofs.«01_k».proof.Proof.AttendIdeal.Value
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Attend.Gen.facts, Cert.AttendIdeal.Gen.facts, Cert.ReferenceIdeal.Gen.facts, Cert.Quantise.Gen.facts, Cert.Pre_lens_fit.Gen.facts, Cert.Pre_scales_ok.Gen.facts,
  frame_attend, frame_ideal, frame_ideal_scales, fun m g _ => Cert.ReferenceIdeal.Gen.frame m g, fun m g _ => Cert.ReferenceIdeal.Gen.frame m g, fun m g _ => Cert.Quantise.Gen.frame m g,
  IdealRules.named_const.statement Cert.AttendIdeal.κ "log2e" .f32 0x3FB8AA3B#32 (((Real.log 2)⁻¹ : ℝ) : EReal) rfl,
  Cert.AttendIdeal.Gen.algebraic⟩

end Cert.Proof

end
